-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x4096 : Shape := ⟨2, ![4096, 4096]⟩
abbrev S4x256x256 : Shape := ⟨3, ![4, 256, 256]⟩
abbrev S256 : Shape := ⟨1, ![256]⟩
abbrev S1x256 : Shape := ⟨2, ![1, 256]⟩
abbrev S1024x256 : Shape := ⟨2, ![1024, 256]⟩
abbrev S4x128x4096 : Shape := ⟨3, ![4, 128, 4096]⟩
abbrev S4 : Shape := ⟨1, ![4]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S512x4096 : Shape := ⟨2, ![512, 4096]⟩
abbrev S512x256 : Shape := ⟨2, ![512, 256]⟩
abbrev S1x256x256 : Shape := ⟨3, ![1, 256, 256]⟩
abbrev S256x256 : Shape := ⟨2, ![256, 256]⟩
abbrev S1024x4096 : Shape := ⟨2, ![1024, 4096]⟩

abbrev nBuf : Space → Nat
  | .hbm => 11
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4x256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S4x256x256, .bf16⟩
  | .hbm, ⟨10, _⟩ => ⟨S4096x256, .f32⟩
  | .local _ .vmem, ⟨0, _⟩ => ⟨S4096x256, .f32⟩
  | .local _ .vmem, ⟨1, _⟩ => ⟨S4x256x256, .bf16⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S4096x4096, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4x128x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c4_i32_10 : BitVec 32 := 4#32
  let c0_i32_11 : BitVec 32 := 0#32
  let v25 : BitVec 1 := Scalar.cmpi .eq c4_i32_10 c0_i32_11
  let c1_i32_12 : BitVec 32 := 1#32
  let v26 : BitVec 32 := Scalar.select v25 c1_i32_12 c4_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  ![v34.toNat]
def k0_off2 (i : grid0.Coords) : Fin 3 → Nat :=
  let arg0 : BitVec 32 := BitVec.ofNat 32 (i 0).val
  let c4_i32 : BitVec 32 := 4#32
  let c0_i32_6 : BitVec 32 := 0#32
  let v15 : BitVec 1 := Scalar.cmpi .eq c4_i32 c0_i32_6
  let c1_i32 : BitVec 32 := 1#32
  let v16 : BitVec 32 := Scalar.select v15 c1_i32 c4_i32
  let v17 : BitVec 32 := Scalar.remsi arg0 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_16 : BitVec 32 := 0#32
  let c0_i32_17 : BitVec 32 := 0#32
  ![v24.toNat, 0, 0]
def k0_off3 (i : grid0.Coords) : Fin 2 → Nat :=
  let arg0 : BitVec 32 := BitVec.ofNat 32 (i 0).val
  let c128_i32 : BitVec 32 := 128#32
  let v14 : BitVec 32 := Scalar.muli arg0 c128_i32
  let c0_i32_18 : BitVec 32 := 0#32
  ![v14.toNat, 0]
def k0_off4 (i : grid0.Coords) : Fin 3 → Nat :=
  let arg0 : BitVec 32 := BitVec.ofNat 32 (i 0).val
  let c4_i32_19 : BitVec 32 := 4#32
  let c0_i32_20 : BitVec 32 := 0#32
  let v40 : BitVec 1 := Scalar.cmpi .eq c4_i32_19 c0_i32_20
  let c1_i32_21 : BitVec 32 := 1#32
  let v41 : BitVec 32 := Scalar.select v40 c1_i32_21 c4_i32_19
  let v42 : BitVec 32 := Scalar.remsi arg0 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let v50 : Index := Scalar.indexCast v49
  let c0 : Index := 0#32
  let c0_25 : Index := 0#32
  ![v50.toNat, 0, 0]
def k0_off5 (i : grid0.Coords) : Fin 2 → Nat :=
  let arg0 : BitVec 32 := BitVec.ofNat 32 (i 0).val
  let c128_i32_26 : BitVec 32 := 128#32
  let v54 : BitVec 32 := Scalar.muli arg0 c128_i32_26
  let v55 : Index := Scalar.indexCast v54
  let c0_27 : Index := 0#32
  ![v55.toNat, 0]
def k0_cond3 (i : grid0.Coords) : BitVec 1 :=
  let arg0 : BitVec 32 := BitVec.ofNat 32 (i 0).val
  let c4_i32_28 : BitVec 32 := 4#32
  let v59 : BitVec 32 := Scalar.addi arg0 c4_i32_28
  let c32_i32_29 : BitVec 32 := 32#32
  let v60 : BitVec 1 := Scalar.cmpi .slt v59 c32_i32_29
  let v61 : BitVec 32 := Scalar.extui v60
  let c0_i32_30 : BitVec 32 := 0#32
  let v62 : BitVec 1 := Scalar.cmpi .ne v61 c0_i32_30
  v62

def k0_off6 (i : grid0.Coords) : Fin 1 → Nat :=
  let arg0 : BitVec 32 := BitVec.ofNat 32 (i 0).val
  let c4_i32_38 : BitVec 32 := 4#32
  let v76 : BitVec 32 := Scalar.addi arg0 c4_i32_38
  let c4_i32_46 : BitVec 32 := 4#32
  let c0_i32_47 : BitVec 32 := 0#32
  let v88 : BitVec 1 := Scalar.cmpi .eq c4_i32_46 c0_i32_47
  let c1_i32_48 : BitVec 32 := 1#32
  let v89 : BitVec 32 := Scalar.select v88 c1_i32_48 c4_i32_46
  let v90 : BitVec 32 := Scalar.remsi v76 v89
  let c0_i32_50 : BitVec 32 := 0#32
  let v92 : BitVec 1 := Scalar.cmpi .slt v90 c0_i32_50
  let c0_i32_51 : BitVec 32 := 0#32
  let v93 : BitVec 1 := Scalar.cmpi .slt v89 c0_i32_51
  let v94 : BitVec 1 := Scalar.xori v92 v93
  let c0_i32_49 : BitVec 32 := 0#32
  let v91 : BitVec 1 := Scalar.cmpi .ne v90 c0_i32_49
  let v95 : BitVec 1 := Scalar.andi v94 v91
  let v96 : BitVec 32 := Scalar.addi v90 v89
  let v97 : BitVec 32 := Scalar.select v95 v96 v90
  ![v97.toNat]
def k0_off7 (i : grid0.Coords) : Fin 3 → Nat :=
  let arg0 : BitVec 32 := BitVec.ofNat 32 (i 0).val
  let c4_i32_38 : BitVec 32 := 4#32
  let v76 : BitVec 32 := Scalar.addi arg0 c4_i32_38
  let c4_i32_40 : BitVec 32 := 4#32
  let c0_i32_41 : BitVec 32 := 0#32
  let v78 : BitVec 1 := Scalar.cmpi .eq c4_i32_40 c0_i32_41
  let c1_i32_42 : BitVec 32 := 1#32
  let v79 : BitVec 32 := Scalar.select v78 c1_i32_42 c4_i32_40
  let v80 : BitVec 32 := Scalar.remsi v76 v79
  let c0_i32_44 : BitVec 32 := 0#32
  let v82 : BitVec 1 := Scalar.cmpi .slt v80 c0_i32_44
  let c0_i32_45 : BitVec 32 := 0#32
  let v83 : BitVec 1 := Scalar.cmpi .slt v79 c0_i32_45
  let v84 : BitVec 1 := Scalar.xori v82 v83
  let c0_i32_43 : BitVec 32 := 0#32
  let v81 : BitVec 1 := Scalar.cmpi .ne v80 c0_i32_43
  let v85 : BitVec 1 := Scalar.andi v84 v81
  let v86 : BitVec 32 := Scalar.addi v80 v79
  let v87 : BitVec 32 := Scalar.select v85 v86 v80
  let c0_i32_52 : BitVec 32 := 0#32
  let c0_i32_53 : BitVec 32 := 0#32
  ![v87.toNat, 0, 0]
def k0_off8 (i : grid0.Coords) : Fin 2 → Nat :=
  let arg0 : BitVec 32 := BitVec.ofNat 32 (i 0).val
  let c4_i32_38 : BitVec 32 := 4#32
  let v76 : BitVec 32 := Scalar.addi arg0 c4_i32_38
  let c128_i32_39 : BitVec 32 := 128#32
  let v77 : BitVec 32 := Scalar.muli v76 c128_i32_39
  let c0_i32_54 : BitVec 32 := 0#32
  ![v77.toNat, 0]
def k0_cond4 (i : grid0.Coords) : BitVec 1 :=
  let arg0 : BitVec 32 := BitVec.ofNat 32 (i 0).val
  let c4_i32_31 : BitVec 32 := 4#32
  let c0_i32_32 : BitVec 32 := 0#32
  let v63 : BitVec 1 := Scalar.cmpi .eq c4_i32_31 c0_i32_32
  let c1_i32_33 : BitVec 32 := 1#32
  let v64 : BitVec 32 := Scalar.select v63 c1_i32_33 c4_i32_31
  let v65 : BitVec 32 := Scalar.remsi arg0 v64
  let c0_i32_35 : BitVec 32 := 0#32
  let v67 : BitVec 1 := Scalar.cmpi .slt v65 c0_i32_35
  let c0_i32_36 : BitVec 32 := 0#32
  let v68 : BitVec 1 := Scalar.cmpi .slt v64 c0_i32_36
  let v69 : BitVec 1 := Scalar.xori v67 v68
  let c0_i32_34 : BitVec 32 := 0#32
  let v66 : BitVec 1 := Scalar.cmpi .ne v65 c0_i32_34
  let v70 : BitVec 1 := Scalar.andi v69 v66
  let v71 : BitVec 32 := Scalar.addi v65 v64
  let v72 : BitVec 32 := Scalar.select v70 v71 v65
  let c3_i32 : BitVec 32 := 3#32
  let v73 : BitVec 1 := Scalar.cmpi .eq v72 c3_i32
  let v74 : BitVec 32 := Scalar.extui v73
  let c0_i32_37 : BitVec 32 := 0#32
  let v75 : BitVec 1 := Scalar.cmpi .ne v74 c0_i32_37
  v75

def k0_off9 (i : grid0.Coords) : Fin 2 → Nat :=
  let arg0 : BitVec 32 := BitVec.ofNat 32 (i 0).val
  let c0_i32_39 : BitVec 32 := 0#32
  let v77 : BitVec 1 := Scalar.cmpi .sgt arg0 c0_i32_39
  let v78 : BitVec 32 := Scalar.extui v77
  let c0_i32_40 : BitVec 32 := 0#32
  let v79 : BitVec 1 := Scalar.cmpi .slt arg0 c0_i32_40
  let v80 : BitVec 32 := Scalar.extui v79
  let v81 : BitVec 32 := Scalar.subi v78 v80
  let c4_i32_38 : BitVec 32 := 4#32
  let c0_i32_41 : BitVec 32 := 0#32
  let v82 : BitVec 1 := Scalar.cmpi .sgt c4_i32_38 c0_i32_41
  let v83 : BitVec 32 := Scalar.extui v82
  let c0_i32_42 : BitVec 32 := 0#32
  let v84 : BitVec 1 := Scalar.cmpi .slt c4_i32_38 c0_i32_42
  let v85 : BitVec 32 := Scalar.extui v84
  let v86 : BitVec 32 := Scalar.subi v83 v85
  let v87 : BitVec 1 := Scalar.cmpi .ne v81 v86
  let v88 : BitVec 32 := Scalar.remsi arg0 c4_i32_38
  let c0_i32_43 : BitVec 32 := 0#32
  let v89 : BitVec 1 := Scalar.cmpi .ne v88 c0_i32_43
  let v90 : BitVec 1 := Scalar.andi v87 v89
  let v76 : BitVec 32 := Scalar.divsi arg0 c4_i32_38
  let c1_i32_44 : BitVec 32 := 1#32
  let v91 : BitVec 32 := Scalar.subi v76 c1_i32_44
  let v92 : BitVec 32 := Scalar.select v90 v91 v76
  let c512_i32 : BitVec 32 := 512#32
  let v93 : BitVec 32 := Scalar.muli v92 c512_i32
  let v94 : Index := Scalar.indexCast v93
  let c0_45 : Index := 0#32
  ![v94.toNat, 0]
def k0_off10 (i : grid0.Coords) : Fin 2 → Nat :=
  let arg0 : BitVec 32 := BitVec.ofNat 32 (i 0).val
  let c0_i32_39 : BitVec 32 := 0#32
  let v77 : BitVec 1 := Scalar.cmpi .sgt arg0 c0_i32_39
  let v78 : BitVec 32 := Scalar.extui v77
  let c0_i32_40 : BitVec 32 := 0#32
  let v79 : BitVec 1 := Scalar.cmpi .slt arg0 c0_i32_40
  let v80 : BitVec 32 := Scalar.extui v79
  let v81 : BitVec 32 := Scalar.subi v78 v80
  let c4_i32_38 : BitVec 32 := 4#32
  let c0_i32_41 : BitVec 32 := 0#32
  let v82 : BitVec 1 := Scalar.cmpi .sgt c4_i32_38 c0_i32_41
  let v83 : BitVec 32 := Scalar.extui v82
  let c0_i32_42 : BitVec 32 := 0#32
  let v84 : BitVec 1 := Scalar.cmpi .slt c4_i32_38 c0_i32_42
  let v85 : BitVec 32 := Scalar.extui v84
  let v86 : BitVec 32 := Scalar.subi v83 v85
  let v87 : BitVec 1 := Scalar.cmpi .ne v81 v86
  let v88 : BitVec 32 := Scalar.remsi arg0 c4_i32_38
  let c0_i32_43 : BitVec 32 := 0#32
  let v89 : BitVec 1 := Scalar.cmpi .ne v88 c0_i32_43
  let v90 : BitVec 1 := Scalar.andi v87 v89
  let v76 : BitVec 32 := Scalar.divsi arg0 c4_i32_38
  let c1_i32_44 : BitVec 32 := 1#32
  let v91 : BitVec 32 := Scalar.subi v76 c1_i32_44
  let v92 : BitVec 32 := Scalar.select v90 v91 v76
  let c512_i32 : BitVec 32 := 512#32
  let v93 : BitVec 32 := Scalar.muli v92 c512_i32
  let v99 : Index := Scalar.indexCast v93
  let c0_48 : Index := 0#32
  ![v99.toNat, 0]
def k0_cond5 (i : grid0.Coords) : BitVec 1 :=
  let arg0 : BitVec 32 := BitVec.ofNat 32 (i 0).val
  let c32_i32_2 : BitVec 32 := 32#32
  let v6 : BitVec 1 := Scalar.cmpi .sge arg0 c32_i32_2
  let c36_i32 : BitVec 32 := 36#32
  let v7 : BitVec 1 := Scalar.cmpi .slt arg0 c36_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off11 (i : grid0.Coords) : Fin 2 → Nat :=
  let arg0 : BitVec 32 := BitVec.ofNat 32 (i 0).val
  let c32_i32_6 : BitVec 32 := 32#32
  let v14 : BitVec 32 := Scalar.subi arg0 c32_i32_6
  let c1024_i32 : BitVec 32 := 1024#32
  let v15 : BitVec 32 := Scalar.muli v14 c1024_i32
  let v16 : Index := Scalar.indexCast v15
  let c0 : Index := 0#32
  ![v16.toNat, 0]
def k0_off12 (i : grid0.Coords) : Fin 2 → Nat :=
  let arg0 : BitVec 32 := BitVec.ofNat 32 (i 0).val
  let c32_i32_6 : BitVec 32 := 32#32
  let v14 : BitVec 32 := Scalar.subi arg0 c32_i32_6
  let c1024_i32 : BitVec 32 := 1024#32
  let v15 : BitVec 32 := Scalar.muli v14 c1024_i32
  let v22 : Index := Scalar.indexCast v15
  let c0_10 : Index := 0#32
  ![v22.toNat, 0]
def k0_cond6 (i : grid0.Coords) : BitVec 1 :=
  let arg0 : BitVec 32 := BitVec.ofNat 32 (i 0).val
  let c36_i32_4 : BitVec 32 := 36#32
  let v11 : BitVec 1 := Scalar.cmpi .sge arg0 c36_i32_4
  let v12 : BitVec 32 := Scalar.extui v11
  let c0_i32_5 : BitVec 32 := 0#32
  let v13 : BitVec 1 := Scalar.cmpi .ne v12 c0_i32_5
  v13

def k0_off13 (i : grid0.Coords) : Fin 2 → Nat :=
  let arg0 : BitVec 32 := BitVec.ofNat 32 (i 0).val
  let c36_i32_6 : BitVec 32 := 36#32
  let v14 : BitVec 32 := Scalar.subi arg0 c36_i32_6
  let c1024_i32 : BitVec 32 := 1024#32
  let v15 : BitVec 32 := Scalar.muli v14 c1024_i32
  let v16 : Index := Scalar.indexCast v15
  let c0 : Index := 0#32
  ![v16.toNat, 0]
def k0_off14 (i : grid0.Coords) : Fin 2 → Nat :=
  let arg0 : BitVec 32 := BitVec.ofNat 32 (i 0).val
  let c36_i32_6 : BitVec 32 := 36#32
  let v14 : BitVec 32 := Scalar.subi arg0 c36_i32_6
  let c1024_i32 : BitVec 32 := 1024#32
  let v15 : BitVec 32 := Scalar.muli v14 c1024_i32
  let v22 : Index := Scalar.indexCast v15
  let c0_10 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c36_i32 : BitVec 32 := 36#32
  let v0 : BitVec 32 := Scalar.subi arg0 c36_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x256 : Shape := ⟨2, ![4096, 256]⟩
abbrev S4096x4096 : Shape := ⟨2, ![4096, 4096]⟩
abbrev S4x256x256 : Shape := ⟨3, ![4, 256, 256]⟩
abbrev S256 : Shape := ⟨1, ![256]⟩
abbrev S_ : Shape := ⟨0, ![]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 82
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4x256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S_, .f32⟩
  | .hbm, ⟨10, _⟩ => ⟨S1x256, .f32⟩
  | .hbm, ⟨11, _⟩ => ⟨S1x256, .f32⟩
  | .hbm, ⟨12, _⟩ => ⟨S_, .i32⟩
  | .hbm, ⟨13, _⟩ => ⟨S_, .f32⟩
  | .hbm, ⟨14, _⟩ => ⟨S256, .f32⟩
  | .hbm, ⟨15, _⟩ => ⟨S1x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1x256, .f32⟩
  | .hbm, ⟨35, _⟩ => ⟨S1x256, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S4096x256, .f32⟩
  | .hbm, ⟨43, _⟩ => ⟨S4096x256, .f32⟩
  | .hbm, ⟨44, _⟩ => ⟨S1x256, .f32⟩
  | .hbm, ⟨45, _⟩ => ⟨S4096x256, .f32⟩
  | .hbm, ⟨46, _⟩ => ⟨S4096x256, .f32⟩
  | .hbm, ⟨47, _⟩ => ⟨S1x256, .f32⟩
  | .hbm, ⟨48, _⟩ => ⟨S4096x256, .f32⟩
  | .hbm, ⟨49, _⟩ => ⟨S4096x256, .f32⟩
  | .hbm, ⟨50, _⟩ => ⟨S1x256x256, .f32⟩
  | .hbm, ⟨51, _⟩ => ⟨S256x256, .f32⟩
  | .hbm, ⟨52, _⟩ => ⟨S4096x256, .f32⟩
  | .hbm, ⟨53, _⟩ => ⟨S4096x256, .f32⟩
  | .hbm, ⟨54, _⟩ => ⟨S1x256x256, .f32⟩
  | .hbm, ⟨55, _⟩ => ⟨S256x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S1x256x256, .f32⟩
  | .hbm, ⟨64, _⟩ => ⟨S256x256, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S1x256x256, .f32⟩
  | .hbm, ⟨73, _⟩ => ⟨S256x256, .f32⟩
  | .hbm, ⟨74, _⟩ => ⟨S4096x256, .f32⟩
  | .hbm, ⟨75, _⟩ => ⟨S4096x256, .f32⟩
  | .hbm, ⟨76, _⟩ => ⟨S1x256, .f32⟩
  | .hbm, ⟨77, _⟩ => ⟨S4096x256, .f32⟩
  | .hbm, ⟨78, _⟩ => ⟨S4096x256, .f32⟩
  | .hbm, ⟨79, _⟩ => ⟨S_, .f32⟩
  | .hbm, ⟨80, _⟩ => ⟨S4096x256, .f32⟩
  | .hbm, ⟨81, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call1_cst : Ref sig .tc := ⟨.hbm, 79, rfl⟩
abbrev main_call1_v0 : Ref sig .tc := ⟨.hbm, 80, rfl⟩
abbrev main_v45 : Ref sig .tc := ⟨.hbm, 81, rfl⟩

abbrev nD : Nat := 1
abbrev τ : Topo := Topo.v7x

variable {F : FTy → Type} [FloatOps F]
-- ==== Proof.Rows.lean ====
/-
  Arrays built up by whole rows: what it means for a buffer to hold a given array on a range of its rows, how a load of
  some of those rows reads it, and how a store of the next rows extends it.
-/
module

public import Idealize.ShloMosaic.Lib.ValueIdxCore
public import Idealize.ShloMosaic.Lib.WritesUnit
public import Idealize.ShloMosaic.Lib.Pipeline.Value
public import Idealize.ShloMosaic.Lib.Pipeline.ValueKit.Tiles

@[expose] public section

noncomputable section

namespace Cert.Rows

open Idealize.ShloMosaic Idealize.ShloMosaic.ValueIdx

/-- The shape of an array of `n` rows of `w` elements. -/
abbrev Sh (n w : ℕ) : Shape := ⟨2, ![n, w]⟩

variable {α : Type} {n w : ℕ}

/-- `d` holds the array `G` on the rows from `a` up to `b`. -/
def On (G d : (Sh n w).Idx → α) (a b : ℕ) : Prop := ∀ y : (Sh n w).Idx, a ≤ (y 0).val → (y 0).val < b → d y = G y

/-- The `k` rows of `G` from row `o` on. -/
def win [NeZero n] (G : (Sh n w).Idx → α) (k o : ℕ) : (Sh k w).Idx → α :=
  fun x => G (ix2 (Fin.ofNat n (o + (x 0).val)) (x 1))

/-- The array whose rows are those of the blocks `p 0`, `p 1`, …, of `k` rows each. -/
def asm (n k : ℕ) [NeZero k] (p : ℕ → (Sh k w).Idx → α) : (Sh n w).Idx → α :=
  fun y => p ((y 0).val / k) (ix2 (Fin.ofNat k (y 0).val) (y 1))

theorem On.none (G d : (Sh n w).Idx → α) (a : ℕ) : On G d a a := fun y h h' => absurd h (by omega)
theorem On.all {G d : (Sh n w).Idx → α} (h : On G d 0 n) : d = G := funext fun y => h y (Nat.zero_le _) (idx2_lt0 y)
theorem On.rfl' (G : (Sh n w).Idx → α) (a b : ℕ) : On G G a b := fun _ _ _ => rfl
theorem On.mono {G d : (Sh n w).Idx → α} {a b a' b' : ℕ} (h : On G d a b) (ha : a ≤ a') (hb : b' ≤ b) : On G d a' b' :=
  fun y h1 h2 => h y (by omega) (by omega)

/-- A block of the assembled array is the block it was assembled from. -/
theorem win_asm [NeZero n] (k : ℕ) [NeZero k] (p : ℕ → (Sh k w).Idx → α) (j : ℕ) (h : k * (j + 1) ≤ n) :
    win (asm n k p) k (k * j) = p j := by
  funext x
  have hx := idx2_lt0 x
  have hk : 0 < k := Nat.pos_of_ne_zero (NeZero.ne k)
  have hlt : k * j + (x 0).val < n := by rw [Nat.mul_add] at h; omega
  have e : (Fin.ofNat n (k * j + (x 0).val)).val = k * j + (x 0).val := Nat.mod_eq_of_lt hlt
  show p ((Fin.ofNat n (k * j + (x 0).val)).val / k) (ix2 (Fin.ofNat k (Fin.ofNat n (k * j + (x 0).val)).val) (x 1)) = p j x
  rw [e]
  have e1 : (k * j + (x 0).val) / k = j := by rw [Nat.mul_add_div hk, Nat.div_eq_of_lt hx, Nat.add_zero]
  have e2 : Fin.ofNat k (k * j + (x 0).val) = x 0 := Fin.ext (by
    show (k * j + (x 0).val) % k = (x 0).val
    rw [Nat.mul_add_mod, Nat.mod_eq_of_lt hx])
  rw [e1, e2]
  exact congrArg (p j) (eq_ix2 x).symm

/-- Two arrays with the same `k`-row blocks are one array. -/
theorem ext_win [NeZero n] (k : ℕ) [NeZero k] {G H : (Sh n w).Idx → α} (h : ∀ j, k * j < n → win G k (k * j) = win H k (k * j)) : G = H := by
  funext y
  have hk : 0 < k := Nat.pos_of_ne_zero (NeZero.ne k)
  have hy := idx2_lt0 y
  have e := congrFun (h ((y 0).val / k) (lt_of_le_of_lt (Nat.mul_div_le _ _) hy)) (ix2 (Fin.ofNat k (y 0).val) (y 1))
  have e0 : Fin.ofNat n (k * ((y 0).val / k) + (Fin.ofNat k (y 0).val).val) = y 0 := Fin.ext (by
    show (k * ((y 0).val / k) + (y 0).val % k) % n = (y 0).val
    rw [Nat.div_add_mod, Nat.mod_eq_of_lt hy])
  have e1 (K : (Sh n w).Idx → α) : win K k (k * ((y 0).val / k)) (ix2 (Fin.ofNat k (y 0).val) (y 1)) = K y := by
    show K (ix2 (Fin.ofNat n (k * ((y 0).val / k) + (Fin.ofNat k (y 0).val).val)) (y 1)) = K y
    rw [e0]; exact congrArg K (eq_ix2 y).symm
  rw [e1, e1] at e; exact e

section Buffers
variable {sig : RefSig} {κ : Kind} {sp : Space} {e : EltTy} {Val : EltTy → Type} [∀ e, Nonempty (Val e)]
  (v : View sig κ sp (Sh n w) e) (f : v.ty.Contents Val)

/-- A load of `k` rows a buffer holds of `G` reads those rows of `G`. -/
theorem On.read [NeZero n] {G : (Sh n w).Idx → Val e} {a b o k : ℕ} {off : Fin 2 → ℕ} (h : On G (v.read Val f) a b)
    (inb : ∀ i : Fin 2, off i + (![k, w] : Fin 2 → ℕ) i ≤ (Sh n w).size i) (hoff : off = ![o, 0]) (ha : a ≤ o) (hb : o + k ≤ b) :
    v.readAt Val (Rect.unit (s := Sh n w) off ![k, w] inb) f = win G k o := by
  subst hoff
  funext x
  have hn : o + k ≤ n := inb 0
  have hx : (x 0).val < k := (x 0).isLt
  have e0 : (Fin.ofNat n (o + (x 0).val)).val = o + (x 0).val := Nat.mod_eq_of_lt (by omega)
  rw [View.readAt_eq_ld, View.ld_unit_apply_of (v.read Val f) ![o, 0] ![k, w] inb x (ix2 (Fin.ofNat n (o + (x 0).val)) (x 1))
    (Fin.forall_fin_two.mpr ⟨e0, (Nat.zero_add _).symm⟩)]
  exact h _ (by rw [show ((ix2 (Fin.ofNat n (o + (x 0).val)) (x 1) : (Sh n w).Idx) 0).val = _ from e0]; omega)
    (by rw [show ((ix2 (Fin.ofNat n (o + (x 0).val)) (x 1) : (Sh n w).Idx) 0).val = _ from e0]; omega)

/-- A load of the whole buffer reads `G`. -/
theorem On.read_all {G : (Sh n w).Idx → Val e} {off : Fin 2 → ℕ} (h : On G (v.read Val f) 0 n)
    (inb : ∀ i : Fin 2, off i + (![n, w] : Fin 2 → ℕ) i ≤ (Sh n w).size i) (hoff : off = ![0, 0]) :
    v.readAt Val (Rect.unit (s := Sh n w) off ![n, w] inb) f = G := by
  subst hoff
  rw [View.readAt_eq_ld, View.ld_unit_zero (S := Sh n w) (by funext i; fin_cases i <;> rfl) inb, h.all]

/-- Rows a store does not reach keep what they held. -/
theorem On.keep {G : (Sh n w).Idx → Val e} {a b a' b' o k : ℕ} {off : Fin 2 → ℕ} (h : On G (v.read Val f) a b)
    (inb : ∀ i : Fin 2, off i + (![k, w] : Fin 2 → ℕ) i ≤ (Sh n w).size i) (p : (Sh k w).Idx → Val e) (hoff : off = ![o, 0])
    (ha : a ≤ a') (hb : b' ≤ b) (hm : b' ≤ o ∨ o + k ≤ a') :
    On G (v.read Val (v.writes Val f [⟨Rect.unit (s := Sh n w) off ![k, w] inb, p⟩])) a' b' := by
  intro y h1 h2
  rw [View.read_writes_cons_rows_of_not_mem v f inb p [] y hoff (W := k) rfl (by omega)]
  exact h y (by omega) (by omega)

/-- A store of the next block of an assembled array extends the part the buffer holds. -/
theorem On.grow {k j o : ℕ} [NeZero k] {q : ℕ → (Sh k w).Idx → Val e} {off : Fin 2 → ℕ} (ho : o = k * j)
    (h : On (asm n k q) (v.read Val f) 0 o)
    (inb : ∀ i : Fin 2, off i + (![k, w] : Fin 2 → ℕ) i ≤ (Sh n w).size i) (p : (Sh k w).Idx → Val e) (hoff : off = ![o, 0]) (hp : p = q j) :
    On (asm n k q) (v.read Val (v.writes Val f [⟨Rect.unit (s := Sh n w) off ![k, w] inb, p⟩])) 0 (o + k) := by
  intro y h1 h2
  have hk : 0 < k := Nat.pos_of_ne_zero (NeZero.ne k)
  by_cases hy : (y 0).val < o
  · rw [View.read_writes_cons_rows_of_not_mem v f inb p [] y hoff (W := k) rfl (Or.inl hy)]
    exact h y h1 hy
  · have hm : (y 0).val % k = (y 0).val - o := by
      rw [show (y 0).val = k * j + ((y 0).val - o) by omega, Nat.mul_add_mod, Nat.mod_eq_of_lt (by omega)]; omega
    have hd : (y 0).val / k = j := by
      rw [show (y 0).val = k * j + ((y 0).val - o) by omega, Nat.mul_add_div hk, Nat.div_eq_of_lt (by omega), Nat.add_zero]
    rw [View.read_writes_cons_rows_of_mem v f inb p [] y (ix2 (Fin.ofNat k (y 0).val) (y 1)) hoff
      (by show (y 0).val = o + (y 0).val % k; rw [hm]; omega) rfl, hp]
    show _ = q ((y 0).val / k) _
    rw [hd]

/-- A store of the whole buffer leaves the payload. -/
theorem On.whole {off : Fin 2 → ℕ} (inb : ∀ i : Fin 2, off i + (![n, w] : Fin 2 → ℕ) i ≤ (Sh n w).size i) (p : (Sh n w).Idx → Val e)
    (hoff : off = ![0, 0]) : v.read Val (v.writes Val f [⟨Rect.unit (s := Sh n w) off ![n, w] inb, p⟩]) = p := by
  funext y
  exact View.read_writes_cons_rows_of_mem v f inb p [] y y hoff (Nat.zero_add _).symm rfl

end Buffers

end Cert.Rows

end
-- ==== Proof.KI.Kit.lean ====
/- What every later module of the kernel's certificate reads: the generated kit restated over the algebra that
   counts the kernel's own transfers, the branch conditions in closed form over the grid's 40 points, and the
   row offsets of the loads and stores in closed form. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The generated kit, restated over the algebra that also counts a kernel's own transfers -/

set_option maxHeartbeats 800000 in
/-- The program up to its region: four host operations, then the pipelined call. -/
theorem toRegion (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

section Staged
variable {c : Dev nD} (dat : Dat τ (Elt F) Unit ℕ (Pipeline.UD sig nD τ) ℕ cfg0 c)

/-- A staged input that the body leaves alone holds its block at every point: window 0 (the features). -/
theorem staged0 (hA : dat.A 0 = V m c (Pipeline.arrRef spec0 0)) (hk : ∀ t, dat.after 0 t = iblk m c 0 t)
    (t : Fin cfg0.N) (d) : dat.before 0 t d = iblk m c 0 t :=
  (dat.before_in_eq_fetched 0 rfl (fun _ => rfl) (fun _ _ _ => rfl) (fun t => by rw [hk]; unfold Dat.blockOf iblk; rw [hA]; try rfl) t d).trans
    (by unfold Dat.fetched Dat.blockOf iblk; rw [hA]; try rfl)
/-- Window 1 (the weights). -/
theorem staged1 (hA : dat.A 1 = V m c (Pipeline.arrRef spec0 1)) (hk : ∀ t, dat.after 1 t = iblk m c 1 t)
    (t : Fin cfg0.N) (d) : dat.before 1 t d = iblk m c 1 t :=
  (dat.before_in_eq_fetched 1 rfl (fun _ => rfl) (fun _ _ _ => rfl) (fun t => by rw [hk]; unfold Dat.blockOf iblk; rw [hA]; try rfl) t d).trans
    (by unfold Dat.fetched Dat.blockOf iblk; rw [hA]; try rfl)
/-- Window 2 (the bias). -/
theorem staged2 (hA : dat.A 2 = V m c (Pipeline.arrRef spec0 2)) (hk : ∀ t, dat.after 2 t = iblk m c 2 t)
    (t : Fin cfg0.N) (d) : dat.before 2 t d = iblk m c 2 t :=
  (dat.before_in_eq_fetched 2 rfl (fun _ => rfl) (fun _ _ _ => rfl) (fun t => by rw [hk]; unfold Dat.blockOf iblk; rw [hA]; try rfl) t d).trans
    (by unfold Dat.fetched Dat.blockOf iblk; rw [hA]; try rfl)
/-- Window 3 (the scale of the normalisation). -/
theorem staged3 (hA : dat.A 3 = V m c (Pipeline.arrRef spec0 3)) (hk : ∀ t, dat.after 3 t = iblk m c 3 t)
    (t : Fin cfg0.N) (d) : dat.before 3 t d = iblk m c 3 t :=
  (dat.before_in_eq_fetched 3 rfl (fun _ => rfl) (fun _ _ _ => rfl) (fun t => by rw [hk]; unfold Dat.blockOf iblk; rw [hA]; try rfl) t d).trans
    (by unfold Dat.fetched Dat.blockOf iblk; rw [hA]; try rfl)
/-- Window 4 (the shift of the normalisation). -/
theorem staged4 (hA : dat.A 4 = V m c (Pipeline.arrRef spec0 4)) (hk : ∀ t, dat.after 4 t = iblk m c 4 t)
    (t : Fin cfg0.N) (d) : dat.before 4 t d = iblk m c 4 t :=
  (dat.before_in_eq_fetched 4 rfl (fun _ => rfl) (fun _ _ _ => rfl) (fun t => by rw [hk]; unfold Dat.blockOf iblk; rw [hA]; try rfl) t d).trans
    (by unfold Dat.fetched Dat.blockOf iblk; rw [hA]; try rfl)
end Staged

/-- From the pipeline's own post to the argument arrays: each ends as it was launched. -/
theorem argsKept (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The branch conditions over the 40 points -/

/-- The first point's own branch: start the ring and normalise the features. -/
abbrev atStart (i : grid0.Coords) : Prop := (Scalar.cmpi .ne (Scalar.extui (Scalar.cmpi .eq (BitVec.ofNat 32 (i 0).val) 0#32)) 0#32) = 1#1

section Conds
omit [FloatOps F]
theorem atStart_iff : ∀ t : Fin grid0.N, atStart (grid0.coords t) ↔ t.val = 0 := by decide +kernel
theorem cond2_iff : ∀ t : Fin grid0.N, k0_cond2 (grid0.coords t) = 1#1 ↔ t.val < 32 := by decide +kernel
theorem cond3_iff : ∀ t : Fin grid0.N, k0_cond3 (grid0.coords t) = 1#1 ↔ t.val < 28 := by decide +kernel
theorem cond4_iff : ∀ t : Fin grid0.N, k0_cond4 (grid0.coords t) = 1#1 ↔ t.val % 4 = 3 := by decide +kernel
theorem cond5_iff : ∀ t : Fin grid0.N, k0_cond5 (grid0.coords t) = 1#1 ↔ 32 ≤ t.val ∧ t.val < 36 := by decide +kernel
theorem cond6_iff : ∀ t : Fin grid0.N, k0_cond6 (grid0.coords t) = 1#1 ↔ 36 ≤ t.val := by decide +kernel

/-! ## The offsets over the points -/

theorem off5_eq : ∀ t : Fin grid0.N, t.val < 32 → k0_off5 (grid0.coords t) = ![128 * t.val, 0] := by decide +kernel
theorem off9_eq : ∀ t : Fin grid0.N, k0_off9 (grid0.coords t) = ![512 * (t.val / 4), 0] := by decide +kernel
theorem off10_eq : ∀ t : Fin grid0.N, k0_off10 (grid0.coords t) = ![512 * (t.val / 4), 0] := by decide +kernel
theorem off11_eq : ∀ t : Fin grid0.N, 32 ≤ t.val → k0_off11 (grid0.coords t) = ![1024 * (t.val - 32), 0] := by decide +kernel
theorem off12_eq : ∀ t : Fin grid0.N, 32 ≤ t.val → k0_off12 (grid0.coords t) = ![1024 * (t.val - 32), 0] := by decide +kernel
theorem off13_eq : ∀ t : Fin grid0.N, 36 ≤ t.val → k0_off13 (grid0.coords t) = ![1024 * (t.val - 36), 0] := by decide +kernel
theorem off14_eq : ∀ t : Fin grid0.N, 36 ≤ t.val → k0_off14 (grid0.coords t) = ![1024 * (t.val - 36), 0] := by decide +kernel
end Conds

end Cert.KernelIdeal.Ring4

end
-- ==== Proof.KI.Slots.lean ====
/- The ring of four slots through which the kernel streams the 4096 x 4096 operand: what a slot holds while a row
   block is moving into it and while none is, how the ring steps from point to point, and the launch's pieces of it. -/
module

public import proofs.«01_k».proof.Proof.KI.Kit
public import Idealize.ShloMosaic.Lib.Ring.AtN

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The slot buffer of the ring and the operand it streams, whole. -/
abbrev ringM : Memref sig .tc .vmem S4x128x4096 .f32 := Memref.whole cc0_scratch5
abbrev lapM : Memref sig .tc .hbm S4096x4096 .f32 := Memref.whole main_arg1
/-- Contents of a memref's buffer on core `c`. -/
abbrev Cont (c : Dev nD) {sp : Space} {S : Shape} {e : EltTy} (M : Memref sig .tc sp S e) : Type := Buf (Elt F) (M.view.loc (c : Thread nD τ))

instance : NeZero grid0.N := ⟨by rw [N_0]; decide⟩

theorem slotInb (s : Fin 4) : ∀ a, (![s.val, 0, 0] : Fin 3 → Nat) a + S1x128x4096.size a ≤ S4x128x4096.size a := by
  have := s.isLt; intro a; fin_cases a <;> simp <;> omega
theorem blockInb (b : Fin 32) : ∀ a, (![128 * b.val, 0] : Fin 2 → Nat) a + S128x4096.size a ≤ S4096x4096.size a := by
  have := b.isLt; intro a; fin_cases a <;> simp <;> omega
theorem semInb (s : Fin 4) : ∀ a, (![s.val] : Fin 1 → Nat) a + S1.size a ≤ S4.size a := by
  have := s.isLt; intro a; fin_cases a <;> simp <;> omega

/-- Slot `s` of the ring, in the spelling of a transfer's destination. -/
def slot (s : Fin 4) : Memref sig .tc .vmem S128x4096 .f32 :=
  (ringM.slice (Rect.unit (s := S4x128x4096) ![s.val, 0, 0] S1x128x4096.size (slotInb s)) (fun _ => rfl)).squeeze S128x4096 squeezes_S1x128x4096_S128x4096
/-- Row block `b` of the operand, in the spelling of a transfer's source. -/
def rows (b : Fin 32) : Memref sig .tc .hbm S128x4096 .f32 :=
  lapM.slice (Rect.unit (s := S4096x4096) ![128 * b.val, 0] S128x4096.size (blockInb b)) (fun _ => rfl)
/-- Cell `s` of the semaphore array. -/
def cell (s : Fin 4) : DmaSems sig S_ := (cc0_scratch6.slice (Rect.unit (s := S4) ![s.val] S1.size (semInb s))).squeeze S_ squeezes_S1_S_
abbrev cellLoc (s : Fin 4) : SemLoc sig := SemLoc.dma (cell s).sem
theorem cellLoc0 : cellLoc 0 = SemLoc.dma 7 := by decide
theorem cellLoc1 : cellLoc 1 = SemLoc.dma 8 := by decide
theorem cellLoc2 : cellLoc 2 = SemLoc.dma 9 := by decide
theorem cellLoc3 : cellLoc 3 = SemLoc.dma 10 := by decide

/-- The kernel's own cells, in the order of the ring's slots. -/
abbrev ownCells : Fin 4 → SemLoc sig := fun j => (![SemLoc.dma 7, SemLoc.dma 8, SemLoc.dma 9, SemLoc.dma 10] : Fin 4 → SemLoc sig) j
theorem ownCellFacts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c ownCells [0, 1, 2, 3] (by decide) (by decide)]; rfl
/-- The one array the kernel moves itself. -/
def moved : Finset (Ref sig .tc) := {main_arg1}
theorem moved_sub : moved ⊆ Pipeline.restRefs sig spec0 := by decide

section Families
variable (c : Dev nD) (L : Cont (F := F) c lapM)

/-- The share of the operand that slot `s` reads through: the full share halved down its right spine. -/
abbrev part (s : Fin 4) : PosShare TreeShare :=
  if s.val = 0 then fullShare.left else if s.val = 1 then fullShare.right.left else if s.val = 2 then fullShare.right.right.left else fullShare.right.right.right
abbrev slotAt (s : Fin 4) (f : Cont (F := F) c (slot s)) : sProp 𝕄 := (slot s).view.loc (c : Thread nD τ) ↦[(slot s).view.set]{fullShare} f
abbrev cellZero (s : Fin 4) : sProp 𝕄 := semVal ((c : Thread nD τ), cellLoc s) 0
/-- Slot `s`'s copy of the operand: block `b` of it, the rest of it, all of it. -/
abbrev lent (s : Fin 4) (b : Fin 32) : sProp 𝕄 := (rows b).view.loc (c : Thread nD τ) ↦[(rows b).view.set]{part s} L
def unlent (s : Fin 4) (b : Fin 32) : sProp 𝕄 := ((c : Thread nD τ).loc main_arg1) ↦[Finset.univ \ (rows b).view.set]{part s} L
abbrev copy (s : Fin 4) : sProp 𝕄 := ((c : Thread nD τ).loc main_arg1) ↦[Finset.univ]{part s} L
/-- What slot `s` holds once block `b` landed in it over `f`. -/
abbrev filled (s : Fin 4) (b : Fin 32) (f : Cont (F := F) c (slot s)) : Cont (F := F) c (slot s) :=
  (slot s).view.writes (Elt F) f [⟨Rect.whole S128x4096, ReadAs.same.apply ((rows b).view.read (Elt F) L)⟩]
/-- Block `b` on its way into slot `s`. -/
abbrev moving (s : Fin 4) (b : Fin 32) (f : Cont (F := F) c (slot s)) : sProp 𝕄 :=
  Transfers.Flight countersEmb (c : Thread nD τ) (cellLoc s) default ((slot s).view.amount (cellLoc s))
    iprop(slotAt c s (filled c L s b f) ∗ lent c L s b)

/-- A slot nothing is moving into, and a slot block `b` is moving into. -/
def idleSlot (s : Fin 4) : sProp 𝕄 := iprop(cellZero c s ∗ (∃ f, slotAt c s f) ∗ copy c L s)
def busySlot (s : Fin 4) (b : Fin 32) : sProp 𝕄 := iprop(∃ f, moving c L s b f ∗ unlent c L s b)

/-- The `j`-th slot seen from point `t`: block `t + j` is moving into it while there is such a block. -/
def role (t j : ℕ) : sProp 𝕄 :=
  if t + j < 32 then busySlot c L (Ring.sl 4 (t + j)) (Ring.bk 32 (t + j)) else idleSlot c L (Ring.sl 4 (t + j))
def roles (t : ℕ) : sProp 𝕄 := iprop(role c L t 0 ∗ role c L t 1 ∗ role c L t 2 ∗ role c L t 3)
def allIdle : sProp 𝕄 := iprop(idleSlot c L 0 ∗ idleSlot c L 1 ∗ idleSlot c L 2 ∗ idleSlot c L 3)
/-- The ring before point `t`: idle before the first point, then four blocks ahead until they run out. -/
def ringAt (t : ℕ) : sProp 𝕄 := if t = 0 then allIdle c L else roles c L (min t 32)

theorem copy_split (s : Fin 4) (b : Fin 32) : copy (F := F) c L s ⊣⊢ iprop(lent c L s b ∗ unlent c L s b) := by
  unfold unlent; exact pointsTo_split_subset (Finset.subset_univ _)

/-- The whole operand is the four copies of it. -/
theorem copies : ((c : Thread nD τ).loc main_arg1 ↦{fullShare} L : sProp 𝕄) ⊣⊢ iprop(copy c L 0 ∗ copy c L 1 ∗ copy c L 2 ∗ copy c L 3) := by
  constructor
  · iintro H
    ihave G := (pointsTo_share (PosShare.mem_left_op_right fullShare)).1 $$ H
    icases G with ⟨A, H⟩
    ihave G := (pointsTo_share (PosShare.mem_left_op_right fullShare.right)).1 $$ H
    icases G with ⟨B, H⟩
    ihave G := (pointsTo_share (PosShare.mem_left_op_right fullShare.right.right)).1 $$ H
    icases G with ⟨C, D⟩
    isplitl [A]; · iexact A
    isplitl [B]; · iexact B
    isplitl [C]; · iexact C
    iexact D
  · iintro ⟨A, B, C, D⟩
    iapply (pointsTo_share (PosShare.mem_left_op_right fullShare)).2
    isplitl [A]; · iexact A
    iapply (pointsTo_share (PosShare.mem_left_op_right fullShare.right)).2
    isplitl [B]; · iexact B
    iapply (pointsTo_share (PosShare.mem_left_op_right fullShare.right.right)).2
    isplitl [C]; · iexact C
    iexact D

/-! ### Steps of the ring -/

omit [FloatOps F] in
theorem sl_add4 (t : ℕ) : Ring.sl 4 (t + 4) = Ring.sl 4 t := by
  apply Fin.ext; simp [Ring.sl]

/-- Before a middle point the oldest block is moving into slot `t`; -/
theorem roles_busy {t : ℕ} (h : t < 32) : roles c L t = iprop(busySlot c L (Ring.sl 4 t) (Ring.bk 32 t) ∗ role c L t 1 ∗ role c L t 2 ∗ role c L t 3) := by
  unfold roles; rw [show role c L t 0 = busySlot c L (Ring.sl 4 t) (Ring.bk 32 t) from by unfold role; exact if_pos h]
/-- once that point has started block `t + 4` into the same slot, the ring stands before the next; -/
theorem roles_next {t : ℕ} (h : t + 4 < 32) : roles c L (t + 1) = iprop(role c L t 1 ∗ role c L t 2 ∗ role c L t 3 ∗ busySlot c L (Ring.sl 4 t) (Ring.bk 32 (t + 4))) := by
  have e (j : ℕ) : role c L (t + 1) j = role c L t (j + 1) := by unfold role; rw [show t + 1 + j = t + (j + 1) by omega]
  have e4 : role c L t 4 = busySlot c L (Ring.sl 4 t) (Ring.bk 32 (t + 4)) := by unfold role; rw [if_pos h, sl_add4]
  unfold roles; rw [e 0, e 1, e 2, e 3, e4]
/-- and with no such block left the slot stays idle. -/
theorem roles_drain {t : ℕ} (h : ¬t + 4 < 32) : roles c L (t + 1) = iprop(role c L t 1 ∗ role c L t 2 ∗ role c L t 3 ∗ idleSlot c L (Ring.sl 4 t)) := by
  have e (j : ℕ) : role c L (t + 1) j = role c L t (j + 1) := by unfold role; rw [show t + 1 + j = t + (j + 1) by omega]
  have e4 : role c L t 4 = idleSlot c L (Ring.sl 4 t) := by unfold role; rw [if_neg h, sl_add4]
  unfold roles; rw [e 0, e 1, e 2, e 3, e4]
theorem roles_first : roles c L 1 = iprop(busySlot c L (Ring.sl 4 1) (Ring.bk 32 1) ∗ busySlot c L (Ring.sl 4 2) (Ring.bk 32 2) ∗ busySlot c L (Ring.sl 4 3) (Ring.bk 32 3) ∗ busySlot c L (Ring.sl 4 0) (Ring.bk 32 4)) := by
  rw [show (1 : ℕ) = 0 + 1 from rfl, roles_next c L (t := 0) (by decide)]
  unfold role; rw [if_pos (by decide), if_pos (by decide), if_pos (by decide)]
theorem roles_last : roles c L 32 = allIdle c L := by
  unfold roles role allIdle
  rw [if_neg (by decide), if_neg (by decide), if_neg (by decide), if_neg (by decide)]; rfl

/-! ### The slots share out the ring's buffer -/

abbrev slotSet (s : Fin 4) : Finset S4x128x4096.Idx := (Rect.unit (s := S4x128x4096) ![s.val, 0, 0] S1x128x4096.size (slotInb s)).set
omit [FloatOps F] in
theorem slotSet_eq (s : Fin 4) : (slot s).view.set = slotSet s := by
  simp only [slot, Memref.view_squeeze, View.set_reshape]; exact View.set_slice_whole _ _
omit [FloatOps F] in
theorem slots_disjoint (s s' : Fin 4) (h : s ≠ s') : Disjoint (slotSet s) (slotSet s') :=
  Ring.lead_disjoint (s := S4x128x4096) (0 : Fin 3) 1 (fun s : Fin 4 => (![s.val, 0, 0] : Fin 3 → Nat)) S1x128x4096.size slotInb (fun s => by simp) rfl s s' h
omit [FloatOps F] in
theorem slots_cover : Finset.univ.biUnion slotSet = Finset.univ :=
  Ring.lead_cover (s := S4x128x4096) (0 : Fin 3) 1 (fun s : Fin 4 => (![s.val, 0, 0] : Fin 3 → Nat)) S1x128x4096.size slotInb (fun s => by simp)
    (fun s a ha => by fin_cases a <;> first | exact absurd rfl ha | rfl) rfl (fun a ha => by fin_cases a <;> first | exact absurd rfl ha | rfl) rfl
theorem slotAt_eq (s : Fin 4) (f) : slotAt (F := F) c s f = (((c : Thread nD τ).loc cc0_scratch5) ↦[slotSet s]{fullShare} f : sProp 𝕄) := by
  unfold slotAt; rw [slotSet_eq]; rfl

set_option maxHeartbeats 1000000 in
theorem slots_out_of : (iprop(∃ f, ((c : Thread nD τ).loc cc0_scratch5) ↦{fullShare} f) : sProp 𝕄)
    ⊢ iprop((∃ f, slotAt (F := F) c 0 f) ∗ (∃ f, slotAt (F := F) c 1 f) ∗ (∃ f, slotAt (F := F) c 2 f) ∗ ∃ f, slotAt (F := F) c 3 f) :=
  Ring.slots4_split (U := Pipeline.UD sig nD τ) (ℓ := (c : Thread nD τ).loc cc0_scratch5) (q := fullShare) slotSet slots_disjoint slots_cover
    (slotAt c 0) (slotAt c 1) (slotAt c 2) (slotAt c 3) (slotAt_eq c 0) (slotAt_eq c 1) (slotAt_eq c 2) (slotAt_eq c 3)
set_option maxHeartbeats 1000000 in
theorem slots_into : (iprop((∃ f, slotAt (F := F) c 0 f) ∗ (∃ f, slotAt (F := F) c 1 f) ∗ (∃ f, slotAt (F := F) c 2 f) ∗ ∃ f, slotAt (F := F) c 3 f) : sProp 𝕄)
    ⊢ iprop(∃ f, ((c : Thread nD τ).loc cc0_scratch5) ↦{fullShare} f) :=
  Ring.slots4_join (U := Pipeline.UD sig nD τ) (ℓ := (c : Thread nD τ).loc cc0_scratch5) (q := fullShare) slotSet slots_disjoint slots_cover
    (slotAt c 0) (slotAt c 1) (slotAt c 2) (slotAt c 3) (slotAt_eq c 0) (slotAt_eq c 1) (slotAt_eq c 2) (slotAt_eq c 3)

/-- The ring's pieces as the launch hands them over: its buffer at anything, its cells at zero, the operand. -/
abbrev ringParts : sProp 𝕄 := iprop((∃ f, ((c : Thread nD τ).loc cc0_scratch5) ↦{fullShare} f)
  ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0)
  ∗ ((c : Thread nD τ).loc main_arg1 ↦{fullShare} L))

theorem allIdle_of_parts : ringParts c L ⊢ allIdle c L := by
  unfold allIdle idleSlot cellZero
  rw [cellLoc0, cellLoc1, cellLoc2, cellLoc3]
  iintro ⟨HS, ⟨A, B, C, D⟩, HL⟩
  ihave HS := (slots_out_of (F := F) c) $$ HS
  icases HS with ⟨SA, SB, SC, SD⟩
  ihave HL := (copies (F := F) c L).1 $$ HL
  icases HL with ⟨LA, LB, LC, LD⟩
  isplitl [A SA LA]
  · isplitl [A]; · iexact A
    isplitl [SA]; · iexact SA
    iexact LA
  isplitl [B SB LB]
  · isplitl [B]; · iexact B
    isplitl [SB]; · iexact SB
    iexact LB
  isplitl [C SC LC]
  · isplitl [C]; · iexact C
    isplitl [SC]; · iexact SC
    iexact LC
  · isplitl [D]; · iexact D
    isplitl [SD]; · iexact SD
    iexact LD
theorem parts_of_allIdle : allIdle c L ⊢ ringParts c L := by
  unfold allIdle idleSlot cellZero
  rw [cellLoc0, cellLoc1, cellLoc2, cellLoc3]
  iintro ⟨⟨A, SA, LA⟩, ⟨B, SB, LB⟩, ⟨C, SC, LC⟩, D, SD, LD⟩
  isplitl [SA SB SC SD]
  · iapply (slots_into (F := F) c)
    isplitl [SA]; · iexact SA
    isplitl [SB]; · iexact SB
    isplitl [SC]; · iexact SC
    iexact SD
  isplitl [A B C D]
  · isplitl [A]; · iexact A
    isplitl [B]; · iexact B
    isplitl [C]; · iexact C
    iexact D
  · iapply (copies (F := F) c L).2
    isplitl [LA]; · iexact LA
    isplitl [LB]; · iexact LB
    isplitl [LC]; · iexact LC
    iexact LD
end Families

/-! ### The body's own spellings of the slots, blocks and cells at point `t` -/

section Spell
omit [FloatOps F]

set_option synthInstance.maxSize 4096 in
theorem off2_eq : ∀ t : Fin grid0.N, k0_off2 (grid0.coords t) = ![(Ring.sl 4 t.val).val, 0, 0] := by decide +kernel
set_option synthInstance.maxSize 4096 in
theorem off1_eq : ∀ t : Fin grid0.N, k0_off1 (grid0.coords t) = ![(Ring.sl 4 t.val).val] := by decide +kernel
set_option synthInstance.maxSize 4096 in
theorem off3_eq : ∀ t : Fin grid0.N, k0_cond2 (grid0.coords t) = 1#1 → k0_off3 (grid0.coords t) = ![128 * (Ring.bk 32 t.val).val, 0] := by decide +kernel
set_option synthInstance.maxSize 4096 in
theorem off4_eq : ∀ t : Fin grid0.N, k0_off4 (grid0.coords t) = ![(Ring.sl 4 t.val).val, 0, 0] := by decide +kernel
set_option synthInstance.maxSize 4096 in
theorem off7_eq : ∀ t : Fin grid0.N, k0_off7 (grid0.coords t) = ![(Ring.sl 4 t.val).val, 0, 0] := by decide +kernel
set_option synthInstance.maxSize 4096 in
theorem off6_eq : ∀ t : Fin grid0.N, k0_off6 (grid0.coords t) = ![(Ring.sl 4 t.val).val] := by decide +kernel
set_option synthInstance.maxSize 4096 in
theorem off8_eq : ∀ t : Fin grid0.N, k0_cond3 (grid0.coords t) = 1#1 → k0_off8 (grid0.coords t) = ![128 * (Ring.bk 32 (t.val + 4)).val, 0] := by decide +kernel

theorem slot_of_off {o : Fin 3 → Nat} {s : Fin 4} (h : o = ![s.val, 0, 0]) (hb : ∀ a, o a + S1x128x4096.size a ≤ S4x128x4096.size a) :
    (ringM.slice (Rect.unit (s := S4x128x4096) o S1x128x4096.size hb) (fun _ => rfl)).squeeze S128x4096 squeezes_S1x128x4096_S128x4096 = slot s :=
  congrArg (fun M : Memref sig .tc .vmem S1x128x4096 .f32 => M.squeeze S128x4096 squeezes_S1x128x4096_S128x4096) (Memref.slice_unit_congr _ h _ _ (fun _ => rfl) (fun _ => rfl))
theorem rows_of_off {o : Fin 2 → Nat} {b : Fin 32} (h : o = ![128 * b.val, 0]) (hb : ∀ a, o a + S128x4096.size a ≤ S4096x4096.size a) :
    lapM.slice (Rect.unit (s := S4096x4096) o S128x4096.size hb) (fun _ => rfl) = rows b :=
  Memref.slice_unit_congr _ h _ _ (fun _ => rfl) (fun _ => rfl)
theorem cell_of_off {o : Fin 1 → Nat} {s : Fin 4} (h : o = ![s.val]) (hb : ∀ a, o a + S1.size a ≤ S4.size a) :
    (cc0_scratch6.slice (Rect.unit (s := S4) o S1.size hb)).squeeze S_ squeezes_S1_S_ = cell s :=
  congrArg (fun A : DmaSems sig S1 => A.squeeze S_ squeezes_S1_S_) (SemArray.slice_unit_congr _ h _ _)

@[sl_canon] theorem waitSlot (t : Fin grid0.N) (h : k0_cond2 (grid0.coords t) = 1#1) :
    (ringM.slice (Rect.unit (s := S4x128x4096) (k0_off2 (grid0.coords t)) S1x128x4096.size (k0_off2_inb (grid0.coords t) h)) (fun _ => rfl)).squeeze S128x4096 squeezes_S1x128x4096_S128x4096 = slot (Ring.sl 4 t.val) :=
  slot_of_off (off2_eq t) _
@[sl_canon] theorem waitCell (t : Fin grid0.N) (h : k0_cond2 (grid0.coords t) = 1#1) :
    (cc0_scratch6.slice (Rect.unit (s := S4) (k0_off1 (grid0.coords t)) S1.size (k0_off1_inb (grid0.coords t) h))).squeeze S_ squeezes_S1_S_ = cell (Ring.sl 4 t.val) :=
  cell_of_off (off1_eq t) _
@[sl_canon] theorem waitRows (t : Fin grid0.N) (h : k0_cond2 (grid0.coords t) = 1#1) :
    lapM.slice (Rect.unit (s := S4096x4096) (k0_off3 (grid0.coords t)) S128x4096.size (k0_off3_inb (grid0.coords t) h)) (fun _ => rfl) = rows (Ring.bk 32 t.val) :=
  rows_of_off (off3_eq t h) _
@[sl_canon] theorem startSlot (t : Fin grid0.N) (h2 : k0_cond2 (grid0.coords t) = 1#1) (h3 : k0_cond3 (grid0.coords t) = 1#1) :
    (ringM.slice (Rect.unit (s := S4x128x4096) (k0_off7 (grid0.coords t)) S1x128x4096.size (k0_off7_inb (grid0.coords t) h2 h3)) (fun _ => rfl)).squeeze S128x4096 squeezes_S1x128x4096_S128x4096 = slot (Ring.sl 4 t.val) :=
  slot_of_off (off7_eq t) _
@[sl_canon] theorem startCell (t : Fin grid0.N) (h2 : k0_cond2 (grid0.coords t) = 1#1) (h3 : k0_cond3 (grid0.coords t) = 1#1) :
    (cc0_scratch6.slice (Rect.unit (s := S4) (k0_off6 (grid0.coords t)) S1.size (k0_off6_inb (grid0.coords t) h2 h3))).squeeze S_ squeezes_S1_S_ = cell (Ring.sl 4 t.val) :=
  cell_of_off (off6_eq t) _
@[sl_canon] theorem startRows (t : Fin grid0.N) (h2 : k0_cond2 (grid0.coords t) = 1#1) (h3 : k0_cond3 (grid0.coords t) = 1#1) :
    lapM.slice (Rect.unit (s := S4096x4096) (k0_off8 (grid0.coords t)) S128x4096.size (k0_off8_inb (grid0.coords t) h2 h3)) (fun _ => rfl) = rows (Ring.bk 32 (t.val + 4)) :=
  rows_of_off (off8_eq t h3) _
instance (priority := high) loadBox (t : Fin grid0.N) : ClosedOff (k0_off4 (grid0.coords t)) := ⟨![(Ring.sl 4 t.val).val, 0, 0], off4_eq t⟩
end Spell

end Cert.KernelIdeal.Ring4

end
-- ==== Proof.KI.Model.lean ====
/-
  What the kernel's arrays hold, as functions of its operands: each is assembled from the row blocks the body stores,
  and each block is the body's own expression of the arrays before it.
-/
module

public import proofs.«01_k».proof.Proof.KI.Kit
public import proofs.«01_k».proof.Proof.Rows

@[expose] public section

noncomputable section

namespace Cert.KernelIdeal.Ring4

open Idealize.ShloMosaic Idealize.ShloMosaic.ValueIdx Cert.Rows
open Cert.KernelIdeal.Gen

variable {F : FTy → Type} [FloatOps F]

/-- The kernel's operands as it reads them. -/
structure Ops (F : FTy → Type) where
  x : Vec F S4096x256 .f32
  lap : Vec F S4096x4096 .f32
  w : Vec F S4x256x256 .bf16
  bias : Vec F S1x256 .f32
  gamma : Vec F S1x256 .f32
  beta : Vec F S1x256 .f32

namespace Ops
variable (I : Ops F)

/-- Block `b` of the operand, 128 rows, as it lies in a slot of the ring. -/
def blk (b : ℕ) : Vec F S1x128x4096 .f32 := fun x => I.lap (ix2 (Fin.ofNat 4096 (128 * b + (x 1).val)) (x 2))
/-- The `k`-th weight matrix. -/
def mat (k : Fin 4) : Vec F S1x256x256 .bf16 := fun x => I.w (ix3 k (x 1) (x 2))

/-- The rounded operand. -/
def lb : Vec F S4096x4096 .bf16 := asm 4096 128 fun b => k0_pay2 (I.blk b)
/-- The normalised features. -/
def xh : Vec F S4096x256 .bf16 := k0_pay1 I.x (k0_pay8 I.x) (k0_pay9 I.x) I.gamma I.beta
/-- The first term of the recurrence, its 512-row block `j`. -/
def t1b (j : ℕ) : Vec F S512x256 .bf16 := k0_pay11 (win I.lb 512 (512 * j)) I.xh
def t1 : Vec F S4096x256 .bf16 := asm 4096 512 I.t1b
/-- The sum of the products by the first two matrices. -/
def a1b (j : ℕ) : Vec F S512x256 .bf16 :=
  k0_pay3 (k0_pay12 (win I.lb 512 (512 * j)) I.xh (win I.xh 512 (512 * j)) (I.mat 0) (I.mat 1))
def a1 : Vec F S4096x256 .bf16 := asm 4096 512 I.a1b
/-- The second term, its 1024-row block `j`, and the sum with its product. -/
def t2b (j : ℕ) : Vec F S1024x256 .bf16 := k0_pay5 (win I.lb 1024 (1024 * j)) I.t1 (win I.xh 1024 (1024 * j))
def t2 : Vec F S4096x256 .bf16 := asm 4096 1024 I.t2b
def a2b (j : ℕ) : Vec F S1024x256 .bf16 :=
  k0_pay6 (win I.lb 1024 (1024 * j)) I.t1 (win I.xh 1024 (1024 * j)) (win I.a1 1024 (1024 * j)) (I.mat 2)
def a2 : Vec F S4096x256 .bf16 := asm 4096 1024 I.a2b
/-- The result, its 1024-row block `j`. -/
def out (j : ℕ) : Vec F S1024x256 .f32 :=
  k0_pay7 (win I.lb 1024 (1024 * j)) I.t2 (win I.t1 1024 (1024 * j)) (win I.a2 1024 (1024 * j)) (I.mat 3) I.bias

/-- Each block is its expression of whatever equals what it is made of. -/
theorem lb_of {v : Vec F S1x128x4096 .f32} {b : ℕ} (h : v = I.blk b) : k0_pay2 v = k0_pay2 (I.blk b) := by rw [h]
theorem xh_of {v34 : Vec F S4096x256 .f32} {v53 v57 : Vec F S1x256 .f32} (h34 : v34 = I.x) (h53 : v53 = I.gamma) (h57 : v57 = I.beta) :
    k0_pay1 v34 (k0_pay8 v34) (k0_pay9 v34) v53 v57 = I.xh := by subst h34 h53 h57; rfl
theorem t1b_of {j : ℕ} {v95 : Vec F S512x4096 .bf16} {v96 : Vec F S4096x256 .bf16} (h95 : v95 = win I.lb 512 (512 * j)) (h96 : v96 = I.xh) :
    k0_pay11 v95 v96 = I.t1b j := by subst h95 h96; rfl
theorem a1b_of {j : ℕ} {v95 : Vec F S512x4096 .bf16} {v96 : Vec F S4096x256 .bf16} {v104 : Vec F S512x256 .bf16} {v105 v108 : Vec F S1x256x256 .bf16}
    (h95 : v95 = win I.lb 512 (512 * j)) (h96 : v96 = I.xh) (h104 : v104 = win I.xh 512 (512 * j)) (h105 : v105 = I.mat 0) (h108 : v108 = I.mat 1) :
    k0_pay3 (k0_pay12 v95 v96 v104 v105 v108) = I.a1b j := by subst h95 h96 h104 h105 h108; rfl
theorem t2b_of {j : ℕ} {v17 : Vec F S1024x4096 .bf16} {v18 : Vec F S4096x256 .bf16} {v23 : Vec F S1024x256 .bf16}
    (h17 : v17 = win I.lb 1024 (1024 * j)) (h18 : v18 = I.t1) (h23 : v23 = win I.xh 1024 (1024 * j)) : k0_pay5 v17 v18 v23 = I.t2b j := by
  subst h17 h18 h23; rfl
theorem a2b_of {j : ℕ} {v17 : Vec F S1024x4096 .bf16} {v18 : Vec F S4096x256 .bf16} {v23 v32 : Vec F S1024x256 .bf16} {v34 : Vec F S1x256x256 .bf16}
    (h17 : v17 = win I.lb 1024 (1024 * j)) (h18 : v18 = I.t1) (h23 : v23 = win I.xh 1024 (1024 * j)) (h32 : v32 = win I.a1 1024 (1024 * j))
    (h34 : v34 = I.mat 2) : k0_pay6 v17 v18 v23 v32 v34 = I.a2b j := by subst h17 h18 h23 h32 h34; rfl
theorem out_of {j : ℕ} {v17 : Vec F S1024x4096 .bf16} {v18 : Vec F S4096x256 .bf16} {v23 v27 : Vec F S1024x256 .bf16} {v30 : Vec F S1x256x256 .bf16}
    {v34 : Vec F S1x256 .f32} (h17 : v17 = win I.lb 1024 (1024 * j)) (h18 : v18 = I.t2) (h23 : v23 = win I.t1 1024 (1024 * j))
    (h27 : v27 = win I.a2 1024 (1024 * j)) (h30 : v30 = I.mat 3) (h34 : v34 = I.bias) : k0_pay7 v17 v18 v23 v27 v30 v34 = I.out j := by
  subst h17 h18 h23 h27 h30 h34; rfl

end Ops

section Slabs
variable {κ : Kind} {sp : Space} {e : EltTy} {Val : EltTy → Type}

/-- A load of matrix `k` of a buffer of four. -/
theorem read_mat (I : Ops F) (v : View sig κ sp S4x256x256 .bf16) (f : v.ty.Contents (Elt F)) (h : v.read (Elt F) f = I.w) (k : Fin 4)
    {off : Fin 3 → ℕ} (inb : ∀ i : Fin 3, off i + S1x256x256.size i ≤ S4x256x256.size i) (hoff : off = ![k.val, 0, 0]) :
    v.readAt (Elt F) (Rect.unit (s := S4x256x256) off S1x256x256.size inb) f = I.mat k := by
  subst hoff
  funext x
  rw [View.readAt_eq_ld, h]
  refine View.ld_unit_apply_of I.w ![k.val, 0, 0] S1x256x256.size inb x (ix3 k (x 1) (x 2)) ?_
  intro a
  have h0 : (x 0).val < 1 := (x 0).isLt
  match a with
  | ⟨0, _⟩ => show k.val = k.val + (x 0).val; omega
  | ⟨1, _⟩ => exact (Nat.zero_add _).symm
  | ⟨2, _⟩ => exact (Nat.zero_add _).symm

/-- A load of a whole row. -/
theorem read_row {v : View sig κ sp S1x256 .f32} {f : v.ty.Contents (Elt F)} {g : Vec F S1x256 .f32} (h : v.read (Elt F) f = g)
    (inb : ∀ i : Fin 2, (![0, 0] : Fin 2 → ℕ) i + S1x256.size i ≤ S1x256.size i) :
    v.readAt (Elt F) (Rect.unit (s := S1x256) ![0, 0] S1x256.size inb) f = g :=
  On.read_all (G := g) v f (by rw [h]; exact On.rfl' g _ _) inb rfl
end Slabs

end Cert.KernelIdeal.Ring4

end
-- ==== Proof.KI.Landed.lean ====
/- What a load of a landed slot reads, and a slot's copy of the operand passed from one block to another. -/
module

public import proofs.«01_k».proof.Proof.KI.Slots
public import proofs.«01_k».proof.Proof.KI.Model
public import Idealize.ShloMosaic.Lib.MemrefSat
public import Idealize.ShloMosaic.Lib.Tactic.Stretches

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2 ix3)

variable {F : FTy → Type} [FloatOps F]

local notation "𝕄" => MT nD τ sig Unit (Elt F) ℕ (Pipeline.UD sig nD τ) ℕ

/-! ### What a landed slot reads as -/

section Landed
variable (c : Dev nD) (L : Cont (F := F) c lapM)

/-- Block `b` of the operand reads its 128 rows. -/
theorem rows_read (b : Fin 32) : (rows b).view.read (Elt F) L = Rows.win (lapM.view.read (Elt F) L) 128 (128 * b.val) :=
  Rows.On.read (G := lapM.view.read (Elt F) L) lapM.view L (Rows.On.rfl' _ 0 4096) (blockInb b) rfl (Nat.zero_le _) (by omega)

/-- A slot that holds an array `g` loads it under a leading unit axis. -/
theorem slot_load {o : Fin 3 → Nat} {s : Fin 4} (h : o = ![s.val, 0, 0]) (hb : ∀ a, o a + S1x128x4096.size a ≤ S4x128x4096.size a)
    (f : Cont (F := F) c (slot s)) (g : S128x4096.Idx → Elt F .f32) :
    ringM.view.readAt (Elt F) (Rect.unit (s := S4x128x4096) o S1x128x4096.size hb).toLoadRect ((slot s).view.writes (Elt F) f [⟨Rect.whole S128x4096, g⟩])
      = fun x : S1x128x4096.Idx => g (ix2 (x 1) (x 2)) := by
  subst h
  have e := (Memref.read_squeeze_slice (Val := Elt F) ringM (Rect.unit (s := S4x128x4096) ![s.val, 0, 0] S1x128x4096.size hb) (fun _ => rfl)
    squeezes_S1x128x4096_S128x4096 shapeCasts_S1x128x4096_S128x4096 ((slot s).view.writes (Elt F) f [⟨Rect.whole S128x4096, g⟩])).symm
  have e' : (slot s).view.read (Elt F) ((slot s).view.writes (Elt F) f [⟨Rect.whole S128x4096, g⟩]) = g := View.read_writes_whole _ _ _
  funext x
  have e2 := congrFun (e.trans e') (ix2 (x 1) (x 2))
  rw [shapeCast_dropUnit_apply] at e2
  refine Eq.trans (congrArg _ ?_) e2
  funext a
  match a with
  | ⟨0, _⟩ => exact Fin.ext (Nat.lt_one_iff.mp (x 0).isLt)
  | ⟨1, _⟩ => rfl
  | ⟨2, _⟩ => rfl

/-- A slot block `b` has landed in loads that block of the operand. -/
theorem slot_load_blk (I : Ops F) (hL : I.lap = lapM.view.read (Elt F) L) {o : Fin 3 → Nat} {s : Fin 4} (h : o = ![s.val, 0, 0])
    (hb : ∀ a, o a + S1x128x4096.size a ≤ S4x128x4096.size a) (f : Cont (F := F) c (slot s)) (b : Fin 32) (n : ℕ) (hn : b.val = n) :
    ringM.view.readAt (Elt F) (Rect.unit (s := S4x128x4096) o S1x128x4096.size hb).toLoadRect
      ((slot s).view.writes (Elt F) f [⟨Rect.whole S128x4096, ReadAs.same.apply ((rows b).view.read (Elt F) L)⟩]) = I.blk n := by
  subst hn
  refine (slot_load c h hb f _).trans ?_
  funext x
  show (rows b).view.read (Elt F) L (ix2 (x 1) (x 2)) = I.lap _
  rw [rows_read, hL]; rfl
end Landed

/-- A slot's copy of the operand, with block `b` of it apart, has any other block of it apart as well. -/
theorem respan (c : Dev nD) (L : Cont (F := F) c lapM) (s : Fin 4) (b b' : Fin 32) :
    iprop(lent (F := F) c L s b ∗ unlent c L s b) ⊢ iprop(lent c L s b' ∗ unlent c L s b') :=
  (copy_split c L s b).2.trans (copy_split c L s b').1

/-- The closed forms the run reads of its offsets. -/
instance (priority := high) storeRows (t : Fin grid0.N) [h : Fact (k0_cond2 (grid0.coords t) = 1#1)] : ClosedOff (k0_off5 (grid0.coords t)) :=
  ⟨![128 * t.val, 0], off5_eq t ((cond2_iff t).1 h.out)⟩
instance (priority := high) groupRows (t : Fin grid0.N) : ClosedOff (k0_off9 (grid0.coords t)) := ⟨![512 * (t.val / 4), 0], off9_eq t⟩
instance (priority := high) termRows (t : Fin grid0.N) : ClosedOff (k0_off10 (grid0.coords t)) := ⟨![512 * (t.val / 4), 0], off10_eq t⟩

instance (priority := high) secondRows (t : Fin grid0.N) [h : Fact (k0_cond5 (grid0.coords t) = 1#1)] : ClosedOff (k0_off11 (grid0.coords t)) :=
  ⟨![1024 * (t.val - 32), 0], off11_eq t ((cond5_iff t).1 h.out).1⟩
instance (priority := high) secondTerm (t : Fin grid0.N) [h : Fact (k0_cond5 (grid0.coords t) = 1#1)] : ClosedOff (k0_off12 (grid0.coords t)) :=
  ⟨![1024 * (t.val - 32), 0], off12_eq t ((cond5_iff t).1 h.out).1⟩
theorem bk_val {t : ℕ} (h : t < 32) : (Ring.bk 32 t).val = t := Nat.mod_eq_of_lt h

end Cert.KernelIdeal.Ring4

end
-- ==== Proof.KI.RunPrime.lean ====
/- The body at point 0. -/
module

public import proofs.«01_k».proof.Proof.KI.Landed

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rows

variable {F : FTy → Type} [FloatOps F]

local notation "𝕄" => MT nD τ sig Unit (Elt F) ℕ (Pipeline.UD sig nD τ) ℕ

set_option maxHeartbeats 4000000 in
/-- The first point: four blocks are started, the features normalised, block 0 waited for and rounded, and block 4 started. -/
theorem runPrime (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : atStart (grid0.coords t)) (h2 : k0_cond2 (grid0.coords t) = 1#1) (h3 : k0_cond3 (grid0.coords t) = 1#1) (h4 : ¬k0_cond4 (grid0.coords t) = 1#1) (h5 : ¬k0_cond5 (grid0.coords t) = 1#1) (h6 : ¬k0_cond6 (grid0.coords t) = 1#1)
    (W : Waits sig Unit) (K : PUnit → sProp 𝕄) :
    iprop(idleSlot c L (Ring.sl 4 t.val)
        ∗ idleSlot c L (Ring.sl 4 (t.val + 1))
        ∗ idleSlot c L (Ring.sl 4 (t.val + 2))
        ∗ idleSlot c L (Ring.sl 4 (t.val + 3))
        ∗ owns (c : Thread nD τ) arg1 fullShare I.x
        ∗ owns (c : Thread nD τ) arg5 fullShare I.gamma
        ∗ owns (c : Thread nD τ) arg6 fullShare I.beta
        ∗ ownsSat (c : Thread nD τ) arg8 fullShare (fun d => On I.lb d 0 (128 * t.val))
        ∗ ownsSat (c : Thread nD τ) arg9 fullShare (fun d => True)
        ∗ owes (c : Thread nD τ) 0 W
        ∗ (iprop(busySlot c L (Ring.sl 4 (t.val + 1)) (Ring.bk 32 (t.val + 1))
            ∗ busySlot c L (Ring.sl 4 (t.val + 2)) (Ring.bk 32 (t.val + 2))
            ∗ busySlot c L (Ring.sl 4 (t.val + 3)) (Ring.bk 32 (t.val + 3))
            ∗ busySlot c L (Ring.sl 4 t.val) (Ring.bk 32 (t.val + 4))
            ∗ owns (c : Thread nD τ) arg1 fullShare I.x
            ∗ owns (c : Thread nD τ) arg5 fullShare I.gamma
            ∗ owns (c : Thread nD τ) arg6 fullShare I.beta
            ∗ ownsSat (c : Thread nD τ) arg8 fullShare (fun d => On I.lb d 0 (128 * t.val + 128))
            ∗ ownsSat (c : Thread nD τ) arg9 fullShare (fun d => On I.xh d 0 4096)
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  haveI : Fact (k0_cond2 (grid0.coords t) = 1#1) := ⟨h2⟩
  haveI : Fact (k0_cond3 (grid0.coords t) = 1#1) := ⟨h3⟩
  rw [cc0__body_eq_skeleton]; unfold cc0__body_skel
  simp (config := { iota := false, proj := false, eta := false }) only [k0_part1_eq_skeleton, k0_part2_eq_skeleton, k0_part3_eq_skeleton]
  have ht0 : t.val = 0 := (atStart_iff t).1 h1
  have hcanonS0 := slot_of_off (o := ![0, 0, 0]) (s := Ring.sl 4 t.val) (by rw [ht0]; rfl) inb_S4x128x4096_S1x128x4096_0_0_0
  have hcanonC0 := cell_of_off (o := ![0]) (s := Ring.sl 4 t.val) (by rw [ht0]; rfl) inb_S4_S1_0
  have hcanonB0 := rows_of_off (o := ![0, 0]) (b := Ring.bk 32 t.val) (by rw [ht0]; rfl) inb_S4096x4096_S128x4096_0_0
  have hcanonS1 := slot_of_off (o := ![1, 0, 0]) (s := Ring.sl 4 (t.val + 1)) (by rw [ht0]; rfl) inb_S4x128x4096_S1x128x4096_1_0_0
  have hcanonC1 := cell_of_off (o := ![1]) (s := Ring.sl 4 (t.val + 1)) (by rw [ht0]; rfl) inb_S4_S1_1
  have hcanonB1 := rows_of_off (o := ![128, 0]) (b := Ring.bk 32 (t.val + 1)) (by rw [ht0]; rfl) inb_S4096x4096_S128x4096_128_0
  have hcanonS2 := slot_of_off (o := ![2, 0, 0]) (s := Ring.sl 4 (t.val + 2)) (by rw [ht0]; rfl) inb_S4x128x4096_S1x128x4096_2_0_0
  have hcanonC2 := cell_of_off (o := ![2]) (s := Ring.sl 4 (t.val + 2)) (by rw [ht0]; rfl) inb_S4_S1_2
  have hcanonB2 := rows_of_off (o := ![256, 0]) (b := Ring.bk 32 (t.val + 2)) (by rw [ht0]; rfl) inb_S4096x4096_S128x4096_256_0
  have hcanonS3 := slot_of_off (o := ![3, 0, 0]) (s := Ring.sl 4 (t.val + 3)) (by rw [ht0]; rfl) inb_S4x128x4096_S1x128x4096_3_0_0
  have hcanonC3 := cell_of_off (o := ![3]) (s := Ring.sl 4 (t.val + 3)) (by rw [ht0]; rfl) inb_S4_S1_3
  have hcanonB3 := rows_of_off (o := ![384, 0]) (b := Ring.bk 32 (t.val + 3)) (by rw [ht0]; rfl) inb_S4096x4096_S128x4096_384_0
  unfold busySlot idleSlot ownsSat owns
  iintro ⟨⟨C0, ⟨%s0, S0⟩, L0⟩, ⟨C1, ⟨%s1, S1⟩, L1⟩, ⟨C2, ⟨%s2, S2⟩, L2⟩, ⟨C3, ⟨%s3, S3⟩, L3⟩, ⟨%f1, %e1, H1⟩, ⟨%f5, %e5, H5⟩, ⟨%f6, %e6, H6⟩, ⟨%f8, %e8, H8⟩, ⟨%f9, %e9, H9⟩, HW, Hk⟩
  icases (copy_split c L (Ring.sl 4 t.val) (Ring.bk 32 t.val)).1 $$ L0 with ⟨L0, R0⟩
  icases (copy_split c L (Ring.sl 4 (t.val + 1)) (Ring.bk 32 (t.val + 1))).1 $$ L1 with ⟨L1, R1⟩
  icases (copy_split c L (Ring.sl 4 (t.val + 2)) (Ring.bk 32 (t.val + 2))).1 $$ L2 with ⟨L2, R2⟩
  icases (copy_split c L (Ring.sl 4 (t.val + 3)) (Ring.bk 32 (t.val + 3))).1 $$ L3 with ⟨L3, R3⟩
  sl_exec (disch := first | sl_exact h1 | sl_exact h2 | sl_exact h3 | sl_exact h4 | sl_exact h5 | sl_exact h6)
  icases (respan c L (Ring.sl 4 t.val) (Ring.bk 32 t.val) (Ring.bk 32 (t.val + 4))) $$ [L0 R0] with ⟨L0, R0⟩
  · isplitl [L0]; · iexact L0
    iexact R0
  sl_exec (disch := first | sl_exact h1 | sl_exact h2 | sl_exact h3 | sl_exact h4 | sl_exact h5 | sl_exact h6)
  have ht : t.val < 32 := (cond2_iff t).1 h2
  sl_step
  iapply Hk
  isplitl [C1 R1]
  · iexists _; isplitl [C1]; · iexact C1
    iexact R1
  isplitl [C2 R2]
  · iexists _; isplitl [C2]; · iexact C2
    iexact R2
  isplitl [C3 R3]
  · iexists _; isplitl [C3]; · iexact C3
    iexact R3
  isplitl [C0 R0]
  · iexists _; isplitl [C0]; · iexact C0
    iexact R0
  isplitl [H1]
  · iexists _; isplitr; swap; · iexact H1
    ipureintro; exact e1
  isplitl [H5]
  · iexists _; isplitr; swap; · iexact H5
    ipureintro; exact e5
  isplitl [H6]
  · iexists _; isplitr; swap; · iexact H6
    ipureintro; exact e6
  isplitl [H8]
  · iexists _; isplitr; swap; · iexact H8
    ipureintro; exact Rows.On.grow (j := t.val) arg8.view f8 rfl e8 _ _ (off5_eq t ht) (by sl_open_run; exact I.lb_of (slot_load_blk c L I hL (off4_eq t) _ _ _ _ (bk_val ht)))
  isplitl [H9]
  · iexists _; isplitr; swap; · iexact H9
    ipureintro; exact (by
      rw [show _ = I.xh from (Rows.On.whole (n := 4096) (w := 256) arg9.view f9 _ _ rfl).trans (by
        sl_open_run
        exact I.xh_of (Rows.On.read_all (n := 4096) (w := 256) arg1.view f1 (by rw [e1]; exact On.rfl' _ _ _) _ rfl) (read_row e5 _) (read_row e6 _))]
      exact On.rfl' _ _ _)
  iexists _; iexact HW

end Cert.KernelIdeal.Ring4

end
-- ==== Proof.KI.RunMid.lean ====
/- The body at the points that wait for a block and start another: 1 to 27. -/
module

public import proofs.«01_k».proof.Proof.KI.Landed

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rows

variable {F : FTy → Type} [FloatOps F]

local notation "𝕄" => MT nD τ sig Unit (Elt F) ℕ (Pipeline.UD sig nD τ) ℕ

set_option maxHeartbeats 2000000 in
/-- A middle point: block `t` is waited for, rounded into its rows, and block `t + 4` is started into its slot. -/
theorem runMid (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : ¬atStart (grid0.coords t)) (h2 : k0_cond2 (grid0.coords t) = 1#1) (h3 : k0_cond3 (grid0.coords t) = 1#1) (h4 : ¬k0_cond4 (grid0.coords t) = 1#1) (h5 : ¬k0_cond5 (grid0.coords t) = 1#1) (h6 : ¬k0_cond6 (grid0.coords t) = 1#1)
    (W : Waits sig Unit) (K : PUnit → sProp 𝕄) :
    iprop(busySlot c L (Ring.sl 4 t.val) (Ring.bk 32 t.val)
        ∗ ownsSat (c : Thread nD τ) arg8 fullShare (fun d => On I.lb d 0 (128 * t.val))
        ∗ owes (c : Thread nD τ) 0 W
        ∗ (iprop(busySlot c L (Ring.sl 4 t.val) (Ring.bk 32 (t.val + 4))
            ∗ ownsSat (c : Thread nD τ) arg8 fullShare (fun d => On I.lb d 0 (128 * t.val + 128))
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  haveI : Fact (k0_cond2 (grid0.coords t) = 1#1) := ⟨h2⟩
  haveI : Fact (k0_cond3 (grid0.coords t) = 1#1) := ⟨h3⟩
  rw [cc0__body_eq_skeleton]; unfold cc0__body_skel
  simp (config := { iota := false, proj := false, eta := false }) only [k0_part1_eq_skeleton, k0_part2_eq_skeleton, k0_part3_eq_skeleton]
  unfold busySlot ownsSat
  iintro ⟨⟨%fs, Hf, Hr⟩, ⟨%f8, %e8, H8⟩, HW, Hk⟩
  sl_exec (disch := first | sl_exact h1 | sl_exact h2 | sl_exact h3 | sl_exact h4 | sl_exact h5 | sl_exact h6)
  icases (respan c L (Ring.sl 4 t.val) (Ring.bk 32 t.val) (Ring.bk 32 (t.val + 4))) $$ [Hf_src Hr] with ⟨Hs, Hr⟩
  · isplitl [Hf_src]; · iexact Hf_src
    iexact Hr
  sl_exec (disch := first | sl_exact h1 | sl_exact h2 | sl_exact h3 | sl_exact h4 | sl_exact h5 | sl_exact h6)
  have ht : t.val < 32 := (cond2_iff t).1 h2
  sl_step
  iapply Hk
  isplitl [Hf Hr]
  · iexists _; isplitl [Hf]; · iexact Hf
    iexact Hr
  isplitl [H8]
  · iexists _; isplitr; swap; · iexact H8
    ipureintro; exact Rows.On.grow (j := t.val) arg8.view f8 rfl e8 _ _ (off5_eq t ht) (by sl_open_run; exact I.lb_of (slot_load_blk c L I hL (off4_eq t) _ _ _ _ (bk_val ht)))
  iexists _; iexact HW

set_option maxHeartbeats 2000000 in
/-- A middle point that also forms a block of the first term and of the running sum. -/
theorem runMidTerm (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : ¬atStart (grid0.coords t)) (h2 : k0_cond2 (grid0.coords t) = 1#1) (h3 : k0_cond3 (grid0.coords t) = 1#1) (h4 : k0_cond4 (grid0.coords t) = 1#1) (h5 : ¬k0_cond5 (grid0.coords t) = 1#1) (h6 : ¬k0_cond6 (grid0.coords t) = 1#1)
    (W : Waits sig Unit) (K : PUnit → sProp 𝕄) :
    iprop(busySlot c L (Ring.sl 4 t.val) (Ring.bk 32 t.val)
        ∗ owns (c : Thread nD τ) arg3 fullShare I.w
        ∗ ownsSat (c : Thread nD τ) arg8 fullShare (fun d => On I.lb d 0 (128 * t.val))
        ∗ ownsSat (c : Thread nD τ) arg9 fullShare (fun d => On I.xh d 0 4096)
        ∗ ownsSat (c : Thread nD τ) arg10 fullShare (fun d => On I.t1 d 0 (512 * (t.val / 4)))
        ∗ ownsSat (c : Thread nD τ) arg12 fullShare (fun d => On I.a1 d 0 (512 * (t.val / 4)))
        ∗ owes (c : Thread nD τ) 0 W
        ∗ (iprop(busySlot c L (Ring.sl 4 t.val) (Ring.bk 32 (t.val + 4))
            ∗ owns (c : Thread nD τ) arg3 fullShare I.w
            ∗ ownsSat (c : Thread nD τ) arg8 fullShare (fun d => On I.lb d 0 (128 * t.val + 128))
            ∗ ownsSat (c : Thread nD τ) arg9 fullShare (fun d => On I.xh d 0 4096)
            ∗ ownsSat (c : Thread nD τ) arg10 fullShare (fun d => On I.t1 d 0 (512 * (t.val / 4) + 512))
            ∗ ownsSat (c : Thread nD τ) arg12 fullShare (fun d => On I.a1 d 0 (512 * (t.val / 4) + 512))
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  haveI : Fact (k0_cond2 (grid0.coords t) = 1#1) := ⟨h2⟩
  haveI : Fact (k0_cond3 (grid0.coords t) = 1#1) := ⟨h3⟩
  rw [cc0__body_eq_skeleton]; unfold cc0__body_skel
  simp (config := { iota := false, proj := false, eta := false }) only [k0_part1_eq_skeleton, k0_part2_eq_skeleton, k0_part3_eq_skeleton]
  unfold busySlot ownsSat owns
  iintro ⟨⟨%fs, Hf, Hr⟩, ⟨%f3, %e3, H3⟩, ⟨%f8, %e8, H8⟩, ⟨%f9, %e9, H9⟩, ⟨%f10, %e10, H10⟩, ⟨%f12, %e12, H12⟩, HW, Hk⟩
  sl_exec (disch := first | sl_exact h1 | sl_exact h2 | sl_exact h3 | sl_exact h4 | sl_exact h5 | sl_exact h6)
  icases (respan c L (Ring.sl 4 t.val) (Ring.bk 32 t.val) (Ring.bk 32 (t.val + 4))) $$ [Hf_src Hr] with ⟨Hs, Hr⟩
  · isplitl [Hf_src]; · iexact Hf_src
    iexact Hr
  sl_exec (disch := first | sl_exact h1 | sl_exact h2 | sl_exact h3 | sl_exact h4 | sl_exact h5 | sl_exact h6)
  have ht : t.val < 32 := (cond2_iff t).1 h2
  have h43 : t.val % 4 = 3 := (cond4_iff t).1 h4
  sl_step
  iapply Hk
  isplitl [Hf Hr]
  · iexists _; isplitl [Hf]; · iexact Hf
    iexact Hr
  isplitl [H3]
  · iexists _; isplitr; swap; · iexact H3
    ipureintro; exact e3
  isplitl [H8]
  · iexists _; isplitr; swap; · iexact H8
    ipureintro; exact Rows.On.grow (j := t.val) arg8.view f8 rfl e8 _ _ (off5_eq t ht) (by sl_open_run; exact I.lb_of (slot_load_blk c L I hL (off4_eq t) _ _ _ _ (bk_val ht)))
  isplitl [H9]
  · iexists _; isplitr; swap; · iexact H9
    ipureintro; exact e9
  isplitl [H10]
  · iexists _; isplitr; swap; · iexact H10
    ipureintro; exact Rows.On.grow (j := t.val / 4) arg10.view f10 rfl e10 _ _ (off10_eq t) (by
      sl_open_run
      exact I.t1b_of (Rows.On.read (n := 4096) (w := 4096) arg8.view _ (a := 0) (b := 128 * t.val + 128) (Rows.On.grow (j := t.val) arg8.view f8 rfl e8 _ _ (off5_eq t ht) (by sl_open_run; exact I.lb_of (slot_load_blk c L I hL (off4_eq t) _ _ _ _ (bk_val ht)))) _ (off9_eq t) (Nat.zero_le _) (by omega)) (Rows.On.read_all (n := 4096) (w := 256) arg9.view f9 e9 _ rfl))
  isplitl [H12]
  · iexists _; isplitr; swap; · iexact H12
    ipureintro; exact Rows.On.grow (j := t.val / 4) arg12.view f12 rfl e12 _ _ (off10_eq t) (by
      sl_open_run
      exact I.a1b_of (Rows.On.read (n := 4096) (w := 4096) arg8.view _ (a := 0) (b := 128 * t.val + 128) (Rows.On.grow (j := t.val) arg8.view f8 rfl e8 _ _ (off5_eq t ht) (by sl_open_run; exact I.lb_of (slot_load_blk c L I hL (off4_eq t) _ _ _ _ (bk_val ht)))) _ (off9_eq t) (Nat.zero_le _) (by omega)) (Rows.On.read_all (n := 4096) (w := 256) arg9.view f9 e9 _ rfl) (Rows.On.read (n := 4096) (w := 256) arg9.view f9 e9 _ (off10_eq t) (Nat.zero_le _) (by omega)) (read_mat I arg3.view f3 e3 0 _ rfl) (read_mat I arg3.view f3 e3 1 _ rfl))
  iexists _; iexact HW

end Cert.KernelIdeal.Ring4

end
-- ==== Proof.KI.RunDrain.lean ====
/- The body at the points that wait for a block and start none: 28 to 31. -/
module

public import proofs.«01_k».proof.Proof.KI.Landed

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rows

variable {F : FTy → Type} [FloatOps F]

local notation "𝕄" => MT nD τ sig Unit (Elt F) ℕ (Pipeline.UD sig nD τ) ℕ

set_option maxHeartbeats 2000000 in
/-- A late point: block `t` is waited for and rounded, and its slot stays idle. -/
theorem runDrain (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : ¬atStart (grid0.coords t)) (h2 : k0_cond2 (grid0.coords t) = 1#1) (h3 : ¬k0_cond3 (grid0.coords t) = 1#1) (h4 : ¬k0_cond4 (grid0.coords t) = 1#1) (h5 : ¬k0_cond5 (grid0.coords t) = 1#1) (h6 : ¬k0_cond6 (grid0.coords t) = 1#1)
    (W : Waits sig Unit) (K : PUnit → sProp 𝕄) :
    iprop(busySlot c L (Ring.sl 4 t.val) (Ring.bk 32 t.val)
        ∗ ownsSat (c : Thread nD τ) arg8 fullShare (fun d => On I.lb d 0 (128 * t.val))
        ∗ owes (c : Thread nD τ) 0 W
        ∗ (iprop(idleSlot c L (Ring.sl 4 t.val)
            ∗ ownsSat (c : Thread nD τ) arg8 fullShare (fun d => On I.lb d 0 (128 * t.val + 128))
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  haveI : Fact (k0_cond2 (grid0.coords t) = 1#1) := ⟨h2⟩
  rw [cc0__body_eq_skeleton]; unfold cc0__body_skel
  simp (config := { iota := false, proj := false, eta := false }) only [k0_part1_eq_skeleton, k0_part2_eq_skeleton, k0_part3_eq_skeleton]
  unfold busySlot idleSlot ownsSat
  iintro ⟨⟨%fs, Hf, Hr⟩, ⟨%f8, %e8, H8⟩, HW, Hk⟩
  sl_exec (disch := first | sl_exact h1 | sl_exact h2 | sl_exact h3 | sl_exact h4 | sl_exact h5 | sl_exact h6)
  have ht : t.val < 32 := (cond2_iff t).1 h2
  sl_step
  iapply Hk
  isplitl [Hf Hf_dst Hf_src Hr]
  · isplitl [Hf]; · iexact Hf
    isplitl [Hf_dst]; · iexists _; iexact Hf_dst
    iapply (copy_split c L (Ring.sl 4 t.val) (Ring.bk 32 t.val)).2
    isplitl [Hf_src]; · iexact Hf_src
    iexact Hr
  isplitl [H8]
  · iexists _; isplitr; swap; · iexact H8
    ipureintro; exact Rows.On.grow (j := t.val) arg8.view f8 rfl e8 _ _ (off5_eq t ht) (by sl_open_run; exact I.lb_of (slot_load_blk c L I hL (off4_eq t) _ _ _ _ (bk_val ht)))
  iexists _; iexact HW

set_option maxHeartbeats 2000000 in
/-- The last such point, which also forms a block of the first term and of the running sum. -/
theorem runDrainTerm (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : ¬atStart (grid0.coords t)) (h2 : k0_cond2 (grid0.coords t) = 1#1) (h3 : ¬k0_cond3 (grid0.coords t) = 1#1) (h4 : k0_cond4 (grid0.coords t) = 1#1) (h5 : ¬k0_cond5 (grid0.coords t) = 1#1) (h6 : ¬k0_cond6 (grid0.coords t) = 1#1)
    (W : Waits sig Unit) (K : PUnit → sProp 𝕄) :
    iprop(busySlot c L (Ring.sl 4 t.val) (Ring.bk 32 t.val)
        ∗ owns (c : Thread nD τ) arg3 fullShare I.w
        ∗ ownsSat (c : Thread nD τ) arg8 fullShare (fun d => On I.lb d 0 (128 * t.val))
        ∗ ownsSat (c : Thread nD τ) arg9 fullShare (fun d => On I.xh d 0 4096)
        ∗ ownsSat (c : Thread nD τ) arg10 fullShare (fun d => On I.t1 d 0 (512 * (t.val / 4)))
        ∗ ownsSat (c : Thread nD τ) arg12 fullShare (fun d => On I.a1 d 0 (512 * (t.val / 4)))
        ∗ owes (c : Thread nD τ) 0 W
        ∗ (iprop(idleSlot c L (Ring.sl 4 t.val)
            ∗ owns (c : Thread nD τ) arg3 fullShare I.w
            ∗ ownsSat (c : Thread nD τ) arg8 fullShare (fun d => On I.lb d 0 (128 * t.val + 128))
            ∗ ownsSat (c : Thread nD τ) arg9 fullShare (fun d => On I.xh d 0 4096)
            ∗ ownsSat (c : Thread nD τ) arg10 fullShare (fun d => On I.t1 d 0 (512 * (t.val / 4) + 512))
            ∗ ownsSat (c : Thread nD τ) arg12 fullShare (fun d => On I.a1 d 0 (512 * (t.val / 4) + 512))
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  haveI : Fact (k0_cond2 (grid0.coords t) = 1#1) := ⟨h2⟩
  rw [cc0__body_eq_skeleton]; unfold cc0__body_skel
  simp (config := { iota := false, proj := false, eta := false }) only [k0_part1_eq_skeleton, k0_part2_eq_skeleton, k0_part3_eq_skeleton]
  unfold busySlot idleSlot ownsSat owns
  iintro ⟨⟨%fs, Hf, Hr⟩, ⟨%f3, %e3, H3⟩, ⟨%f8, %e8, H8⟩, ⟨%f9, %e9, H9⟩, ⟨%f10, %e10, H10⟩, ⟨%f12, %e12, H12⟩, HW, Hk⟩
  sl_exec (disch := first | sl_exact h1 | sl_exact h2 | sl_exact h3 | sl_exact h4 | sl_exact h5 | sl_exact h6)
  have ht : t.val < 32 := (cond2_iff t).1 h2
  have h43 : t.val % 4 = 3 := (cond4_iff t).1 h4
  sl_step
  iapply Hk
  isplitl [Hf Hf_dst Hf_src Hr]
  · isplitl [Hf]; · iexact Hf
    isplitl [Hf_dst]; · iexists _; iexact Hf_dst
    iapply (copy_split c L (Ring.sl 4 t.val) (Ring.bk 32 t.val)).2
    isplitl [Hf_src]; · iexact Hf_src
    iexact Hr
  isplitl [H3]
  · iexists _; isplitr; swap; · iexact H3
    ipureintro; exact e3
  isplitl [H8]
  · iexists _; isplitr; swap; · iexact H8
    ipureintro; exact Rows.On.grow (j := t.val) arg8.view f8 rfl e8 _ _ (off5_eq t ht) (by sl_open_run; exact I.lb_of (slot_load_blk c L I hL (off4_eq t) _ _ _ _ (bk_val ht)))
  isplitl [H9]
  · iexists _; isplitr; swap; · iexact H9
    ipureintro; exact e9
  isplitl [H10]
  · iexists _; isplitr; swap; · iexact H10
    ipureintro; exact Rows.On.grow (j := t.val / 4) arg10.view f10 rfl e10 _ _ (off10_eq t) (by
      sl_open_run
      exact I.t1b_of (Rows.On.read (n := 4096) (w := 4096) arg8.view _ (a := 0) (b := 128 * t.val + 128) (Rows.On.grow (j := t.val) arg8.view f8 rfl e8 _ _ (off5_eq t ht) (by sl_open_run; exact I.lb_of (slot_load_blk c L I hL (off4_eq t) _ _ _ _ (bk_val ht)))) _ (off9_eq t) (Nat.zero_le _) (by omega)) (Rows.On.read_all (n := 4096) (w := 256) arg9.view f9 e9 _ rfl))
  isplitl [H12]
  · iexists _; isplitr; swap; · iexact H12
    ipureintro; exact Rows.On.grow (j := t.val / 4) arg12.view f12 rfl e12 _ _ (off10_eq t) (by
      sl_open_run
      exact I.a1b_of (Rows.On.read (n := 4096) (w := 4096) arg8.view _ (a := 0) (b := 128 * t.val + 128) (Rows.On.grow (j := t.val) arg8.view f8 rfl e8 _ _ (off5_eq t ht) (by sl_open_run; exact I.lb_of (slot_load_blk c L I hL (off4_eq t) _ _ _ _ (bk_val ht)))) _ (off9_eq t) (Nat.zero_le _) (by omega)) (Rows.On.read_all (n := 4096) (w := 256) arg9.view f9 e9 _ rfl) (Rows.On.read (n := 4096) (w := 256) arg9.view f9 e9 _ (off10_eq t) (Nat.zero_le _) (by omega)) (read_mat I arg3.view f3 e3 0 _ rfl) (read_mat I arg3.view f3 e3 1 _ rfl))
  iexists _; iexact HW

end Cert.KernelIdeal.Ring4

end
-- ==== Proof.KI.RunLate.lean ====
/- The body at the points after the last block: 32 to 39. -/
module

public import proofs.«01_k».proof.Proof.KI.Landed

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rows

variable {F : FTy → Type} [FloatOps F]

local notation "𝕄" => MT nD τ sig Unit (Elt F) ℕ (Pipeline.UD sig nD τ) ℕ

set_option maxHeartbeats 2000000 in
/-- A point of the second term: its block `t - 32` and that block of the running sum. -/
theorem runSecond (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : ¬atStart (grid0.coords t)) (h2 : ¬k0_cond2 (grid0.coords t) = 1#1) (h5 : k0_cond5 (grid0.coords t) = 1#1) (h6 : ¬k0_cond6 (grid0.coords t) = 1#1)
    (W : Waits sig Unit) (K : PUnit → sProp 𝕄) :
    iprop(owns (c : Thread nD τ) arg3 fullShare I.w
        ∗ ownsSat (c : Thread nD τ) arg8 fullShare (fun d => On I.lb d 0 4096)
        ∗ ownsSat (c : Thread nD τ) arg9 fullShare (fun d => On I.xh d 0 4096)
        ∗ ownsSat (c : Thread nD τ) arg10 fullShare (fun d => On I.t1 d 0 4096)
        ∗ ownsSat (c : Thread nD τ) arg11 fullShare (fun d => On I.t2 d 0 (1024 * (t.val - 32)))
        ∗ ownsSat (c : Thread nD τ) arg12 fullShare (fun d => On I.a2 d 0 (1024 * (t.val - 32)) ∧ On I.a1 d (1024 * (t.val - 32)) 4096)
        ∗ owes (c : Thread nD τ) 0 W
        ∗ (iprop(owns (c : Thread nD τ) arg3 fullShare I.w
            ∗ ownsSat (c : Thread nD τ) arg8 fullShare (fun d => On I.lb d 0 4096)
            ∗ ownsSat (c : Thread nD τ) arg9 fullShare (fun d => On I.xh d 0 4096)
            ∗ ownsSat (c : Thread nD τ) arg10 fullShare (fun d => On I.t1 d 0 4096)
            ∗ ownsSat (c : Thread nD τ) arg11 fullShare (fun d => On I.t2 d 0 (1024 * (t.val - 32) + 1024))
            ∗ ownsSat (c : Thread nD τ) arg12 fullShare (fun d => On I.a2 d 0 (1024 * (t.val - 32) + 1024) ∧ On I.a1 d (1024 * (t.val - 32) + 1024) 4096)
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  rw [cc0__body_eq_skeleton]; unfold cc0__body_skel
  simp (config := { iota := false, proj := false, eta := false }) only [k0_part1_eq_skeleton, k0_part2_eq_skeleton, k0_part3_eq_skeleton]
  haveI : Fact (k0_cond5 (grid0.coords t) = 1#1) := ⟨h5⟩
  unfold ownsSat owns
  iintro ⟨⟨%f3, %e3, H3⟩, ⟨%f8, %e8, H8⟩, ⟨%f9, %e9, H9⟩, ⟨%f10, %e10, H10⟩, ⟨%f11, %e11, H11⟩, ⟨%f12, %e12, H12⟩, HW, Hk⟩
  sl_exec (disch := first | sl_exact h1 | sl_exact h2 | sl_exact h5 | sl_exact h6)
  have ht := (cond5_iff t).1 h5
  sl_step
  iapply Hk
  isplitl [H3]
  · iexists _; isplitr; swap; · iexact H3
    ipureintro; exact e3
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact Rows.On.grow (j := t.val - 32) arg11.view f11 rfl e11 _ _ (off12_eq t ht.1) (by
      sl_open_run
      exact I.t2b_of (Rows.On.read (n := 4096) (w := 4096) arg8.view f8 e8 _ (off11_eq t ht.1) (Nat.zero_le _) (by omega)) (Rows.On.read_all (n := 4096) (w := 256) arg10.view f10 e10 _ rfl) (Rows.On.read (n := 4096) (w := 256) arg9.view f9 e9 _ (off12_eq t ht.1) (Nat.zero_le _) (by omega)))
  isplitl [H12]
  · iexists _; isplitr; swap; · iexact H12
    ipureintro; exact ⟨Rows.On.grow (j := t.val - 32) arg12.view f12 rfl e12.1 _ _ (off12_eq t ht.1) (by
      sl_open_run
      exact I.a2b_of (Rows.On.read (n := 4096) (w := 4096) arg8.view f8 e8 _ (off11_eq t ht.1) (Nat.zero_le _) (by omega)) (Rows.On.read_all (n := 4096) (w := 256) arg10.view f10 e10 _ rfl) (Rows.On.read (n := 4096) (w := 256) arg9.view f9 e9 _ (off12_eq t ht.1) (Nat.zero_le _) (by omega)) (Rows.On.read (n := 4096) (w := 256) arg12.view f12 e12.2 _ (off12_eq t ht.1) (le_refl _) (by omega)) (read_mat I arg3.view f3 e3 2 _ rfl)),
      Rows.On.keep arg12.view f12 e12.2 _ _ (off12_eq t ht.1) (by omega) (le_refl _) (Or.inr (le_refl _))⟩
  iexists _; iexact HW

set_option maxHeartbeats 2000000 in
/-- A point of the result: its block `t - 36`. -/
theorem runLast (c : Dev nD) (L : Cont (F := F) c lapM) (I : Ops F) (hL : I.lap = lapM.view.read (Elt F) L) (t : Fin cfg0.N)
  (arg1 : Memref sig .tc .vmem S4096x256 .f32) (harg1 : arg1.IsWhole) (arg3 : Memref sig .tc .vmem S4x256x256 .bf16) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S1024x256 .f32) (harg7 : arg7.IsWhole)
  (arg8 : Memref sig .tc .vmem S4096x4096 .bf16) (harg8 : arg8.IsWhole) (arg9 : Memref sig .tc .vmem S4096x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4096x256 .bf16) (harg12 : arg12.IsWhole)
    (h1 : ¬atStart (grid0.coords t)) (h2 : ¬k0_cond2 (grid0.coords t) = 1#1) (h5 : ¬k0_cond5 (grid0.coords t) = 1#1) (h6 : k0_cond6 (grid0.coords t) = 1#1)
    (W : Waits sig Unit) (K : PUnit → sProp 𝕄) :
    iprop(owns (c : Thread nD τ) arg3 fullShare I.w
        ∗ owns (c : Thread nD τ) arg4 fullShare I.bias
        ∗ ownsSat (c : Thread nD τ) arg7 fullShare (fun d => True)
        ∗ ownsSat (c : Thread nD τ) arg8 fullShare (fun d => On I.lb d 0 4096)
        ∗ ownsSat (c : Thread nD τ) arg10 fullShare (fun d => On I.t1 d 0 4096)
        ∗ ownsSat (c : Thread nD τ) arg11 fullShare (fun d => On I.t2 d 0 4096)
        ∗ ownsSat (c : Thread nD τ) arg12 fullShare (fun d => On I.a2 d 0 4096)
        ∗ owes (c : Thread nD τ) 0 W
        ∗ (iprop(owns (c : Thread nD τ) arg3 fullShare I.w
            ∗ owns (c : Thread nD τ) arg4 fullShare I.bias
            ∗ owns (c : Thread nD τ) arg7 fullShare (I.out (t.val - 36))
            ∗ ownsSat (c : Thread nD τ) arg8 fullShare (fun d => On I.lb d 0 4096)
            ∗ ownsSat (c : Thread nD τ) arg10 fullShare (fun d => On I.t1 d 0 4096)
            ∗ ownsSat (c : Thread nD τ) arg11 fullShare (fun d => On I.t2 d 0 4096)
            ∗ ownsSat (c : Thread nD τ) arg12 fullShare (fun d => On I.a2 d 0 4096)
            ∗ (∃ W', owes (c : Thread nD τ) 0 W')) -∗ K ⟨⟩))
      ⊢ wp frame (wpE (defs₀ (F := F)) Variants.none c none) Set.univ
        (cc0__body (grid0.coords t) arg1 harg1 lapM (Memref.isWhole_whole _) arg3 harg3 arg4 harg4 arg5 harg5 arg6 harg6 arg7 harg7
        arg8 harg8 arg9 harg9 arg10 harg10 arg11 harg11 arg12 harg12 ringM (Memref.isWhole_whole _) cc0_scratch6) K := by
  rw [cc0__body_eq_skeleton]; unfold cc0__body_skel
  simp (config := { iota := false, proj := false, eta := false }) only [k0_part1_eq_skeleton, k0_part2_eq_skeleton, k0_part3_eq_skeleton]
  haveI : Fact (k0_cond6 (grid0.coords t) = 1#1) := ⟨h6⟩
  unfold ownsSat owns
  iintro ⟨⟨%f3, %e3, H3⟩, ⟨%f4, %e4, H4⟩, ⟨%f7, %e7, H7⟩, ⟨%f8, %e8, H8⟩, ⟨%f10, %e10, H10⟩, ⟨%f11, %e11, H11⟩, ⟨%f12, %e12, H12⟩, HW, Hk⟩
  sl_exec (disch := first | sl_exact h1 | sl_exact h2 | sl_exact h5 | sl_exact h6)
  have ht := (cond6_iff t).1 h6
  have hN : t.val < 40 := t.isLt
  sl_step
  iapply Hk
  isplitl [H3]
  · iexists _; isplitr; swap; · iexact H3
    ipureintro; exact e3
  isplitl [H4]
  · iexists _; isplitr; swap; · iexact H4
    ipureintro; exact e4
  isplitl [H7]
  · iexists _; isplitr; swap; · iexact H7
    ipureintro; exact (Rows.On.whole (n := 1024) (w := 256) arg7.view f7 _ _ rfl).trans (by
      sl_open_run
      exact I.out_of (Rows.On.read (n := 4096) (w := 4096) arg8.view f8 e8 _ (off13_eq t ht) (Nat.zero_le _) (by omega)) (Rows.On.read_all (n := 4096) (w := 256) arg11.view f11 e11 _ rfl) (Rows.On.read (n := 4096) (w := 256) arg10.view f10 e10 _ (off14_eq t ht) (Nat.zero_le _) (by omega)) (Rows.On.read (n := 4096) (w := 256) arg12.view f12 e12 _ (off14_eq t ht) (Nat.zero_le _) (by omega)) (read_mat I arg3.view f3 e3 3 _ rfl) (read_row e4 _))
  isplitl [H8]
  · iexists _; isplitr; swap; · iexact H8
    ipureintro; exact e8
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  iexists _; iexact HW

end Cert.KernelIdeal.Ring4

end
-- ==== Proof.KI.Body.lean ====
/- The state the grid points pass on, and the body's triple at every point. -/
module

public import proofs.«01_k».proof.Proof.KI.RunPrime
public import proofs.«01_k».proof.Proof.KI.RunMid
public import proofs.«01_k».proof.Proof.KI.RunDrain
public import proofs.«01_k».proof.Proof.KI.RunLate

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Rows

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points pass on -/

/-- The first grid point. -/
def first : Fin cfg0.N := ⟨0, by rw [show cfg0.N = 40 from N_0]; decide⟩

/-- The kernel's operands on core `c`, as the region finds them. -/
def opsOf (c : Dev nD) : Ops F where
  x := iblk m c 0 first
  lap := lapM.view.read (Elt F) (V m c main_arg1)
  w := iblk m c 1 first
  bias := iblk m c 2 first
  gamma := iblk m c 3 first
  beta := iblk m c 4 first

/-- A staged input's block is the same at every point. -/
theorem iblk0 (c : Dev nD) (t : Fin cfg0.N) : iblk m c 0 t = (opsOf m c).x := rfl
theorem iblk1 (c : Dev nD) (t : Fin cfg0.N) : iblk m c 1 t = (opsOf m c).w := rfl
theorem iblk2 (c : Dev nD) (t : Fin cfg0.N) : iblk m c 2 t = (opsOf m c).bias := rfl
theorem iblk3 (c : Dev nD) (t : Fin cfg0.N) : iblk m c 3 t = (opsOf m c).gamma := rfl
theorem iblk4 (c : Dev nD) (t : Fin cfg0.N) : iblk m c 4 t = (opsOf m c).beta := rfl

/-- How many leading rows each scratch buffer holds before point `k`: the rounded operand, the features, the first
    term, the second term. -/
def nLap (k : ℕ) : ℕ := min (128 * k) 4096
def nFeat (k : ℕ) : ℕ := if k = 0 then 0 else 4096
def nOne (k : ℕ) : ℕ := min (512 * (k / 4)) 4096
def nTwo (k : ℕ) : ℕ := min (1024 * (k - 32)) 4096

/-- The scratch buffers before point `k`; the sum's leading rows have the third product in. -/
def held (c : Dev nD) (I : Ops F) (k : ℕ) : sProp 𝕄 :=
  iprop(ownsSat (c : Thread nD τ) (Memref.whole cc0_scratch0) fullShare (fun d => On I.lb d 0 (nLap k))
    ∗ ownsSat (c : Thread nD τ) (Memref.whole cc0_scratch1) fullShare (fun d => On I.xh d 0 (nFeat k))
    ∗ ownsSat (c : Thread nD τ) (Memref.whole cc0_scratch2) fullShare (fun d => On I.t1 d 0 (nOne k))
    ∗ ownsSat (c : Thread nD τ) (Memref.whole cc0_scratch3) fullShare (fun d => On I.t2 d 0 (nTwo k))
    ∗ ownsSat (c : Thread nD τ) (Memref.whole cc0_scratch4) fullShare (fun d => On I.a2 d 0 (nTwo k) ∧ On I.a1 d (nTwo k) (nOne k)))

/-- The invariant before point `k`: the register, the ring, the scratch buffers. -/
def PhiR (c : Dev nD) (k : ℕ) : sProp 𝕄 := iprop((∃ r, prngReg c r) ∗ ringAt c (V m c main_arg1) k ∗ held c (opsOf m c) k)

/-- The pipeline's proof data on core `c`: every input's buffer at its block, the output's at the last points' blocks
    of the result; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => (opsOf m c).x
    | ⟨1, _⟩ => (opsOf m c).w
    | ⟨2, _⟩ => (opsOf m c).bias
    | ⟨3, _⟩ => (opsOf m c).gamma
    | ⟨4, _⟩ => (opsOf m c).beta
    | ⟨5, _⟩ => (opsOf m c).out (t.val - 36)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

/-- Before every point each input's buffer holds its block. -/
theorem before0 (c : Dev nD) (t : Fin cfg0.N) (d) : (dats m 0 c).before 0 t d = (opsOf m c).x := staged0 m (dats m 0 c) (A_eq m c 0) (fun _ => rfl) t d
theorem before1 (c : Dev nD) (t : Fin cfg0.N) (d) : (dats m 0 c).before 1 t d = (opsOf m c).w := staged1 m (dats m 0 c) (A_eq m c 1) (fun _ => rfl) t d
theorem before2 (c : Dev nD) (t : Fin cfg0.N) (d) : (dats m 0 c).before 2 t d = (opsOf m c).bias := staged2 m (dats m 0 c) (A_eq m c 2) (fun _ => rfl) t d
theorem before3 (c : Dev nD) (t : Fin cfg0.N) (d) : (dats m 0 c).before 3 t d = (opsOf m c).gamma := staged3 m (dats m 0 c) (A_eq m c 3) (fun _ => rfl) t d
theorem before4 (c : Dev nD) (t : Fin cfg0.N) (d) : (dats m 0 c).before 4 t d = (opsOf m c).beta := staged4 m (dats m 0 c) (A_eq m c 4) (fun _ => rfl) t d

/-- The ring at its three stages. -/
theorem ringAt_first (c : Dev nD) (L : Cont (F := F) c lapM) : ringAt c L 0 = allIdle c L := by unfold ringAt; exact if_pos rfl
theorem ringAt_mid (c : Dev nD) (L : Cont (F := F) c lapM) {t : ℕ} (h : t ≠ 0) (h' : t ≤ 32) : ringAt c L t = roles c L t := by
  unfold ringAt; rw [if_neg h, Nat.min_eq_left h']
theorem ringAt_late (c : Dev nD) (L : Cont (F := F) c lapM) {t : ℕ} (h : 32 ≤ t) : ringAt c L t = allIdle c L := by
  unfold ringAt; rw [if_neg (by omega), Nat.min_eq_right h, roles_last]

/-! ## The body at each kind of point -/

/-- What the body is called with at point `t`, the output's buffer as `Q` says, and what it returns. -/
def bodyPre (c : Dev nD) (t : Fin cfg0.N) (Q : sProp 𝕄) : sProp 𝕄 :=
  iprop((dats m 0 c).Φ t.castSucc ∗ (dats m 0 c).owesAt () t.castSucc
    ∗ owns (c : Thread nD τ) (st0_0 t) fullShare (opsOf m c).x ∗ owns (c : Thread nD τ) (st0_1 t) fullShare (opsOf m c).w
    ∗ owns (c : Thread nD τ) (st0_2 t) fullShare (opsOf m c).bias ∗ owns (c : Thread nD τ) (st0_3 t) fullShare (opsOf m c).gamma
    ∗ owns (c : Thread nD τ) (st0_4 t) fullShare (opsOf m c).beta ∗ Q)
def bodyPost (c : Dev nD) (t : Fin cfg0.N) (Q : sProp 𝕄) : sProp 𝕄 :=
  iprop((dats m 0 c).Φ t.succ ∗ (dats m 0 c).owesAt () t.succ
    ∗ owns (c : Thread nD τ) (st0_0 t) fullShare (opsOf m c).x ∗ owns (c : Thread nD τ) (st0_1 t) fullShare (opsOf m c).w
    ∗ owns (c : Thread nD τ) (st0_2 t) fullShare (opsOf m c).bias ∗ owns (c : Thread nD τ) (st0_3 t) fullShare (opsOf m c).gamma
    ∗ owns (c : Thread nD τ) (st0_4 t) fullShare (opsOf m c).beta ∗ Q)

set_option maxHeartbeats 1000000 in
/-- The first point. -/
theorem soundPrime (c : Dev nD) (t : Fin cfg0.N) (Q : sProp 𝕄) (h : t.val = 0) :
    bodyPre m c t Q ⊢ wp frame (wpE (defs₀ (F := F)) Variants.none c none) Set.univ (bodyAt0 t) (fun _ => bodyPost m c t Q) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have e_l : nLap t.val = 128 * t.val := by simp only [nLap, nFeat, nOne, nTwo]; grind
  have e_l1 : nLap (t.val + 1) = 128 * t.val + 128 := by simp only [nLap, nFeat, nOne, nTwo]; grind
  have e_f1 : nFeat (t.val + 1) = 4096 := by simp only [nLap, nFeat, nOne, nTwo]; grind
  have e_o1 : nOne (t.val + 1) = nOne t.val := by simp only [nLap, nFeat, nOne, nTwo]; grind
  have e_w1 : nTwo (t.val + 1) = nTwo t.val := by simp only [nLap, nFeat, nOne, nTwo]; grind
  rw [show ringAt c (V m c main_arg1) t.val = iprop(idleSlot c (V m c main_arg1) (Ring.sl 4 t.val) ∗ idleSlot c (V m c main_arg1) (Ring.sl 4 (t.val + 1)) ∗ idleSlot c (V m c main_arg1) (Ring.sl 4 (t.val + 2)) ∗ idleSlot c (V m c main_arg1) (Ring.sl 4 (t.val + 3))) from by rw [h, ringAt_first]; rfl]
  rw [ringAt_mid c _ (t := t.val + 1) (by omega) (by omega)]
  rw [show roles c (V m c main_arg1) (t.val + 1) = iprop(busySlot c (V m c main_arg1) (Ring.sl 4 (t.val + 1)) (Ring.bk 32 (t.val + 1)) ∗ busySlot c (V m c main_arg1) (Ring.sl 4 (t.val + 2)) (Ring.bk 32 (t.val + 2)) ∗ busySlot c (V m c main_arg1) (Ring.sl 4 (t.val + 3)) (Ring.bk 32 (t.val + 3)) ∗ busySlot c (V m c main_arg1) (Ring.sl 4 t.val) (Ring.bk 32 (t.val + 4))) from by rw [h]; exact roles_first c _]
  rw [e_l, e_l1, e_f1, e_o1, e_w1]
  iintro ⟨⟨Hg, ⟨R0, R1, R2, R3⟩, A8, A9, A10, A11, A12⟩, ⟨%W, -, HW⟩, H0, H1, H2, H3, H4, H5⟩
  iapply (runPrime c (V m c main_arg1) (opsOf m c) rfl t _ _ _ _ _ _ _ _ _ _ _ _ _ _ _ _ _ _ _ _ _ _ ((atStart_iff t).mpr h) ((cond2_iff t).mpr (by omega)) ((cond3_iff t).mpr (by omega)) (fun h => absurd ((cond4_iff t).mp h) (by omega)) (fun h => absurd ((cond5_iff t).mp h) (by omega)) (fun h => absurd ((cond6_iff t).mp h) (by omega)) W _)
  isplitl [R0]; · iexact R0
  isplitl [R1]; · iexact R1
  isplitl [R2]; · iexact R2
  isplitl [R3]; · iexact R3
  isplitl [H0]; · iexact H0
  isplitl [H3]; · iexact H3
  isplitl [H4]; · iexact H4
  isplitl [A8]; · iexact A8
  isplitl [A9]
  · iapply (ownsSat_mono (c : Thread nD τ) _ fullShare (fun _ _ => trivial))
    iexact A9
  isplitl [HW]; · iexact HW
  iintro ⟨R1, R2, R3, R0, H0, H3, H4, A8, A9, ⟨%W', HW'⟩⟩
  isplitl [Hg R1 R2 R3 R0 A8 A9 A10 A11 A12]
  · isplitl [Hg]; · iexact Hg
    isplitl [R1 R2 R3 R0]
    · isplitl [R1]; · iexact R1
      isplitl [R2]; · iexact R2
      isplitl [R3]; · iexact R3
      iexact R0
    isplitl [A8]; · iexact A8
    isplitl [A9]; · iexact A9
    isplitl [A10]; · iexact A10
    isplitl [A11]; · iexact A11
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1000000 in
/-- A middle point. -/
theorem soundMid (c : Dev nD) (t : Fin cfg0.N) (Q : sProp 𝕄) (h : t.val ≠ 0) (h' : t.val < 28) (h4 : ¬t.val % 4 = 3) :
    bodyPre m c t Q ⊢ wp frame (wpE (defs₀ (F := F)) Variants.none c none) Set.univ (bodyAt0 t) (fun _ => bodyPost m c t Q) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have e_l : nLap t.val = 128 * t.val := by simp only [nLap, nFeat, nOne, nTwo]; grind
  have e_l1 : nLap (t.val + 1) = 128 * t.val + 128 := by simp only [nLap, nFeat, nOne, nTwo]; grind
  have e_f1 : nFeat (t.val + 1) = nFeat t.val := by simp only [nLap, nFeat, nOne, nTwo]; grind
  have e_o1 : nOne (t.val + 1) = nOne t.val := by simp only [nLap, nFeat, nOne, nTwo]; grind
  have e_w1 : nTwo (t.val + 1) = nTwo t.val := by simp only [nLap, nFeat, nOne, nTwo]; grind
  rw [ringAt_mid c _ (t := t.val) (by omega) (by omega), ringAt_mid c _ (t := t.val + 1) (by omega) (by omega)]
  rw [roles_busy c _ (t := t.val) (by omega), roles_next c _ (t := t.val) (by omega)]
  rw [e_l, e_l1, e_f1, e_o1, e_w1]
  iintro ⟨⟨Hg, ⟨R0, R1, R2, R3⟩, A8, A9, A10, A11, A12⟩, ⟨%W, -, HW⟩, H0, H1, H2, H3, H4, H5⟩
  iapply (runMid c (V m c main_arg1) (opsOf m c) rfl t _ _ _ _ _ _ _ _ _ _ _ _ _ _ _ _ _ _ _ _ _ _ (fun h => absurd ((atStart_iff t).mp h) (by omega)) ((cond2_iff t).mpr (by omega)) ((cond3_iff t).mpr (by omega)) (fun h => absurd ((cond4_iff t).mp h) (by omega)) (fun h => absurd ((cond5_iff t).mp h) (by omega)) (fun h => absurd ((cond6_iff t).mp h) (by omega)) W _)
  isplitl [R0]; · iexact R0
  isplitl [A8]; · iexact A8
  isplitl [HW]; · iexact HW
  iintro ⟨R0, A8, ⟨%W', HW'⟩⟩
  isplitl [Hg R1 R2 R3 R0 A8 A9 A10 A11 A12]
  · isplitl [Hg]; · iexact Hg
    isplitl [R1 R2 R3 R0]
    · isplitl [R1]; · iexact R1
      isplitl [R2]; · iexact R2
      isplitl [R3]; · iexact R3
      iexact R0
    isplitl [A8]; · iexact A8
    isplitl [A9]; · iexact A9
    isplitl [A10]; · iexact A10
    isplitl [A11]; · iexact A11
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1000000 in
/-- A middle point that also forms the first term. -/
theorem soundMidTerm (c : Dev nD) (t : Fin cfg0.N) (Q : sProp 𝕄) (h : t.val ≠ 0) (h' : t.val < 28) (h4 : t.val % 4 = 3) :
    bodyPre m c t Q ⊢ wp frame (wpE (defs₀ (F := F)) Variants.none c none) Set.univ (bodyAt0 t) (fun _ => bodyPost m c t Q) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have e_l : nLap t.val = 128 * t.val := by simp only [nLap, nFeat, nOne, nTwo]; grind
  have e_l1 : nLap (t.val + 1) = 128 * t.val + 128 := by simp only [nLap, nFeat, nOne, nTwo]; grind
  have e_f : nFeat t.val = 4096 := by simp only [nLap, nFeat, nOne, nTwo]; grind
  have e_f1 : nFeat (t.val + 1) = 4096 := by simp only [nLap, nFeat, nOne, nTwo]; grind
  have e_o : nOne t.val = 512 * (t.val / 4) := by simp only [nLap, nFeat, nOne, nTwo]; grind
  have e_o1 : nOne (t.val + 1) = 512 * (t.val / 4) + 512 := by simp only [nLap, nFeat, nOne, nTwo]; grind
  have e_w : nTwo t.val = 0 := by simp only [nLap, nFeat, nOne, nTwo]; grind
  have e_w1 : nTwo (t.val + 1) = 0 := by simp only [nLap, nFeat, nOne, nTwo]; grind
  rw [ringAt_mid c _ (t := t.val) (by omega) (by omega), ringAt_mid c _ (t := t.val + 1) (by omega) (by omega)]
  rw [roles_busy c _ (t := t.val) (by omega), roles_next c _ (t := t.val) (by omega)]
  rw [e_l, e_l1, e_f, e_f1, e_o, e_o1, e_w, e_w1]
  iintro ⟨⟨Hg, ⟨R0, R1, R2, R3⟩, A8, A9, A10, A11, A12⟩, ⟨%W, -, HW⟩, H0, H1, H2, H3, H4, H5⟩
  iapply (runMidTerm c (V m c main_arg1) (opsOf m c) rfl t _ _ _ _ _ _ _ _ _ _ _ _ _ _ _ _ _ _ _ _ _ _ (fun h => absurd ((atStart_iff t).mp h) (by omega)) ((cond2_iff t).mpr (by omega)) ((cond3_iff t).mpr (by omega)) ((cond4_iff t).mpr (by omega)) (fun h => absurd ((cond5_iff t).mp h) (by omega)) (fun h => absurd ((cond6_iff t).mp h) (by omega)) W _)
  isplitl [R0]; · iexact R0
  isplitl [H1]; · iexact H1
  isplitl [A8]; · iexact A8
  isplitl [A9]; · iexact A9
  isplitl [A10]; · iexact A10
  isplitl [A12]
  · iapply (ownsSat_mono (c : Thread nD τ) _ fullShare (fun _ => And.right))
    iexact A12
  isplitl [HW]; · iexact HW
  iintro ⟨R0, H1, A8, A9, A10, A12, ⟨%W', HW'⟩⟩
  isplitl [Hg R1 R2 R3 R0 A8 A9 A10 A11 A12]
  · isplitl [Hg]; · iexact Hg
    isplitl [R1 R2 R3 R0]
    · isplitl [R1]; · iexact R1
      isplitl [R2]; · iexact R2
      isplitl [R3]; · iexact R3
      iexact R0
    isplitl [A8]; · iexact A8
    isplitl [A9]; · iexact A9
    isplitl [A10]; · iexact A10
    isplitl [A11]; · iexact A11
    iapply (ownsSat_mono (c : Thread nD τ) _ fullShare (fun _ h => And.intro (On.none _ _ _) h))
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1000000 in
/-- A point with no block left to start. -/
theorem soundDrain (c : Dev nD) (t : Fin cfg0.N) (Q : sProp 𝕄) (h : 28 ≤ t.val) (h' : t.val < 32) (h4 : ¬t.val % 4 = 3) :
    bodyPre m c t Q ⊢ wp frame (wpE (defs₀ (F := F)) Variants.none c none) Set.univ (bodyAt0 t) (fun _ => bodyPost m c t Q) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have e_l : nLap t.val = 128 * t.val := by simp only [nLap, nFeat, nOne, nTwo]; grind
  have e_l1 : nLap (t.val + 1) = 128 * t.val + 128 := by simp only [nLap, nFeat, nOne, nTwo]; grind
  have e_f1 : nFeat (t.val + 1) = nFeat t.val := by simp only [nLap, nFeat, nOne, nTwo]; grind
  have e_o1 : nOne (t.val + 1) = nOne t.val := by simp only [nLap, nFeat, nOne, nTwo]; grind
  have e_w1 : nTwo (t.val + 1) = nTwo t.val := by simp only [nLap, nFeat, nOne, nTwo]; grind
  rw [ringAt_mid c _ (t := t.val) (by omega) (by omega), ringAt_mid c _ (t := t.val + 1) (by omega) (by omega)]
  rw [roles_busy c _ (t := t.val) (by omega), roles_drain c _ (t := t.val) (by omega)]
  rw [e_l, e_l1, e_f1, e_o1, e_w1]
  iintro ⟨⟨Hg, ⟨R0, R1, R2, R3⟩, A8, A9, A10, A11, A12⟩, ⟨%W, -, HW⟩, H0, H1, H2, H3, H4, H5⟩
  iapply (runDrain c (V m c main_arg1) (opsOf m c) rfl t _ _ _ _ _ _ _ _ _ _ _ _ _ _ _ _ _ _ _ _ _ _ (fun h => absurd ((atStart_iff t).mp h) (by omega)) ((cond2_iff t).mpr (by omega)) (fun h => absurd ((cond3_iff t).mp h) (by omega)) (fun h => absurd ((cond4_iff t).mp h) (by omega)) (fun h => absurd ((cond5_iff t).mp h) (by omega)) (fun h => absurd ((cond6_iff t).mp h) (by omega)) W _)
  isplitl [R0]; · iexact R0
  isplitl [A8]; · iexact A8
  isplitl [HW]; · iexact HW
  iintro ⟨R0, A8, ⟨%W', HW'⟩⟩
  isplitl [Hg R1 R2 R3 R0 A8 A9 A10 A11 A12]
  · isplitl [Hg]; · iexact Hg
    isplitl [R1 R2 R3 R0]
    · isplitl [R1]; · iexact R1
      isplitl [R2]; · iexact R2
      isplitl [R3]; · iexact R3
      iexact R0
    isplitl [A8]; · iexact A8
    isplitl [A9]; · iexact A9
    isplitl [A10]; · iexact A10
    isplitl [A11]; · iexact A11
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1000000 in
/-- A point with no block left to start that also forms the first term. -/
theorem soundDrainTerm (c : Dev nD) (t : Fin cfg0.N) (Q : sProp 𝕄) (h : 28 ≤ t.val) (h' : t.val < 32) (h4 : t.val % 4 = 3) :
    bodyPre m c t Q ⊢ wp frame (wpE (defs₀ (F := F)) Variants.none c none) Set.univ (bodyAt0 t) (fun _ => bodyPost m c t Q) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have e_l : nLap t.val = 128 * t.val := by simp only [nLap, nFeat, nOne, nTwo]; grind
  have e_l1 : nLap (t.val + 1) = 128 * t.val + 128 := by simp only [nLap, nFeat, nOne, nTwo]; grind
  have e_f : nFeat t.val = 4096 := by simp only [nLap, nFeat, nOne, nTwo]; grind
  have e_f1 : nFeat (t.val + 1) = 4096 := by simp only [nLap, nFeat, nOne, nTwo]; grind
  have e_o : nOne t.val = 512 * (t.val / 4) := by simp only [nLap, nFeat, nOne, nTwo]; grind
  have e_o1 : nOne (t.val + 1) = 512 * (t.val / 4) + 512 := by simp only [nLap, nFeat, nOne, nTwo]; grind
  have e_w : nTwo t.val = 0 := by simp only [nLap, nFeat, nOne, nTwo]; grind
  have e_w1 : nTwo (t.val + 1) = 0 := by simp only [nLap, nFeat, nOne, nTwo]; grind
  rw [ringAt_mid c _ (t := t.val) (by omega) (by omega), ringAt_mid c _ (t := t.val + 1) (by omega) (by omega)]
  rw [roles_busy c _ (t := t.val) (by omega), roles_drain c _ (t := t.val) (by omega)]
  rw [e_l, e_l1, e_f, e_f1, e_o, e_o1, e_w, e_w1]
  iintro ⟨⟨Hg, ⟨R0, R1, R2, R3⟩, A8, A9, A10, A11, A12⟩, ⟨%W, -, HW⟩, H0, H1, H2, H3, H4, H5⟩
  iapply (runDrainTerm c (V m c main_arg1) (opsOf m c) rfl t _ _ _ _ _ _ _ _ _ _ _ _ _ _ _ _ _ _ _ _ _ _ (fun h => absurd ((atStart_iff t).mp h) (by omega)) ((cond2_iff t).mpr (by omega)) (fun h => absurd ((cond3_iff t).mp h) (by omega)) ((cond4_iff t).mpr (by omega)) (fun h => absurd ((cond5_iff t).mp h) (by omega)) (fun h => absurd ((cond6_iff t).mp h) (by omega)) W _)
  isplitl [R0]; · iexact R0
  isplitl [H1]; · iexact H1
  isplitl [A8]; · iexact A8
  isplitl [A9]; · iexact A9
  isplitl [A10]; · iexact A10
  isplitl [A12]
  · iapply (ownsSat_mono (c : Thread nD τ) _ fullShare (fun _ => And.right))
    iexact A12
  isplitl [HW]; · iexact HW
  iintro ⟨R0, H1, A8, A9, A10, A12, ⟨%W', HW'⟩⟩
  isplitl [Hg R1 R2 R3 R0 A8 A9 A10 A11 A12]
  · isplitl [Hg]; · iexact Hg
    isplitl [R1 R2 R3 R0]
    · isplitl [R1]; · iexact R1
      isplitl [R2]; · iexact R2
      isplitl [R3]; · iexact R3
      iexact R0
    isplitl [A8]; · iexact A8
    isplitl [A9]; · iexact A9
    isplitl [A10]; · iexact A10
    isplitl [A11]; · iexact A11
    iapply (ownsSat_mono (c : Thread nD τ) _ fullShare (fun _ h => And.intro (On.none _ _ _) h))
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1000000 in
/-- A point that forms the second term. -/
theorem soundSecond (c : Dev nD) (t : Fin cfg0.N) (Q : sProp 𝕄) (h : 32 ≤ t.val) (h' : t.val < 36) :
    bodyPre m c t Q ⊢ wp frame (wpE (defs₀ (F := F)) Variants.none c none) Set.univ (bodyAt0 t) (fun _ => bodyPost m c t Q) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have e_l : nLap t.val = 4096 := by simp only [nLap, nFeat, nOne, nTwo]; grind
  have e_l1 : nLap (t.val + 1) = 4096 := by simp only [nLap, nFeat, nOne, nTwo]; grind
  have e_f : nFeat t.val = 4096 := by simp only [nLap, nFeat, nOne, nTwo]; grind
  have e_f1 : nFeat (t.val + 1) = 4096 := by simp only [nLap, nFeat, nOne, nTwo]; grind
  have e_o : nOne t.val = 4096 := by simp only [nLap, nFeat, nOne, nTwo]; grind
  have e_o1 : nOne (t.val + 1) = 4096 := by simp only [nLap, nFeat, nOne, nTwo]; grind
  have e_w : nTwo t.val = 1024 * (t.val - 32) := by simp only [nLap, nFeat, nOne, nTwo]; grind
  have e_w1 : nTwo (t.val + 1) = 1024 * (t.val - 32) + 1024 := by simp only [nLap, nFeat, nOne, nTwo]; grind
  rw [ringAt_late c _ (t := t.val) (by omega), ringAt_late c _ (t := t.val + 1) (by omega)]
  rw [e_l, e_l1, e_f, e_f1, e_o, e_o1, e_w, e_w1]
  iintro ⟨⟨Hg, R, A8, A9, A10, A11, A12⟩, ⟨%W, -, HW⟩, H0, H1, H2, H3, H4, H5⟩
  iapply (runSecond c (V m c main_arg1) (opsOf m c) rfl t _ _ _ _ _ _ _ _ _ _ _ _ _ _ _ _ _ _ _ _ _ _ (fun h => absurd ((atStart_iff t).mp h) (by omega)) (fun h => absurd ((cond2_iff t).mp h) (by omega)) ((cond5_iff t).mpr (by omega)) (fun h => absurd ((cond6_iff t).mp h) (by omega)) W _)
  isplitl [H1]; · iexact H1
  isplitl [A8]; · iexact A8
  isplitl [A9]; · iexact A9
  isplitl [A10]; · iexact A10
  isplitl [A11]; · iexact A11
  isplitl [A12]; · iexact A12
  isplitl [HW]; · iexact HW
  iintro ⟨H1, A8, A9, A10, A11, A12, ⟨%W', HW'⟩⟩
  isplitl [Hg R A8 A9 A10 A11 A12]
  · isplitl [Hg]; · iexact Hg
    isplitl [R]
    · iexact R
    isplitl [A8]; · iexact A8
    isplitl [A9]; · iexact A9
    isplitl [A10]; · iexact A10
    isplitl [A11]; · iexact A11
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1000000 in
/-- A point that writes a block of the result. -/
theorem soundLast (c : Dev nD) (t : Fin cfg0.N) (h : 36 ≤ t.val) :
    bodyPre m c t (iprop(∃ d, owns (c : Thread nD τ) (st0_5 t) fullShare d)) ⊢ wp frame (wpE (defs₀ (F := F)) Variants.none c none) Set.univ (bodyAt0 t) (fun _ => bodyPost m c t (owns (c : Thread nD τ) (st0_5 t) fullShare ((opsOf m c).out (t.val - 36)))) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR held
  have hN : t.val < 40 := lt_of_lt_of_eq t.isLt (show cfg0.N = 40 from N_0)
  have e_l : nLap t.val = 4096 := by simp only [nLap, nFeat, nOne, nTwo]; grind
  have e_l1 : nLap (t.val + 1) = 4096 := by simp only [nLap, nFeat, nOne, nTwo]; grind
  have e_f : nFeat t.val = 4096 := by simp only [nLap, nFeat, nOne, nTwo]; grind
  have e_f1 : nFeat (t.val + 1) = 4096 := by simp only [nLap, nFeat, nOne, nTwo]; grind
  have e_o : nOne t.val = 4096 := by simp only [nLap, nFeat, nOne, nTwo]; grind
  have e_o1 : nOne (t.val + 1) = 4096 := by simp only [nLap, nFeat, nOne, nTwo]; grind
  have e_w : nTwo t.val = 4096 := by simp only [nLap, nFeat, nOne, nTwo]; grind
  have e_w1 : nTwo (t.val + 1) = 4096 := by simp only [nLap, nFeat, nOne, nTwo]; grind
  rw [ringAt_late c _ (t := t.val) (by omega), ringAt_late c _ (t := t.val + 1) (by omega)]
  rw [e_l, e_l1, e_f, e_f1, e_o, e_o1, e_w, e_w1]
  iintro ⟨⟨Hg, R, A8, A9, A10, A11, A12⟩, ⟨%W, -, HW⟩, H0, H1, H2, H3, H4, H5⟩
  iapply (runLast c (V m c main_arg1) (opsOf m c) rfl t _ _ _ _ _ _ _ _ _ _ _ _ _ _ _ _ _ _ _ _ _ _ (fun h => absurd ((atStart_iff t).mp h) (by omega)) (fun h => absurd ((cond2_iff t).mp h) (by omega)) (fun h => absurd ((cond5_iff t).mp h) (by omega)) ((cond6_iff t).mpr (by omega)) W _)
  isplitl [H1]; · iexact H1
  isplitl [H2]; · iexact H2
  isplitl [H5]
  · iapply (ownsSat_true (c : Thread nD τ) _ fullShare).2
    iexact H5
  isplitl [A8]; · iexact A8
  isplitl [A10]; · iexact A10
  isplitl [A11]; · iexact A11
  isplitl [A12]
  · iapply (ownsSat_mono (c : Thread nD τ) _ fullShare (fun _ => And.left))
    iexact A12
  isplitl [HW]; · iexact HW
  iintro ⟨H1, H2, H5, A8, A10, A11, A12, ⟨%W', HW'⟩⟩
  isplitl [Hg R A8 A9 A10 A11 A12]
  · isplitl [Hg]; · iexact Hg
    isplitl [R]
    · iexact R
    isplitl [A8]; · iexact A8
    isplitl [A9]; · iexact A9
    isplitl [A10]; · iexact A10
    isplitl [A11]; · iexact A11
    iapply (ownsSat_mono (c : Thread nD τ) _ fullShare (fun _ h => And.intro h (On.none _ _ _)))
    iexact A12
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

end Cert.KernelIdeal.Ring4

end
-- ==== Proof.KI.Launch.lean ====
/- The launch: the body obligation at every point, the invariant at both ends, and the frame. -/
module

public import proofs.«01_k».proof.Proof.KI.Body
public import Idealize.ShloMosaic.Lib.Claim

@[expose] public section

set_option maxRecDepth 16384

noncomputable section

namespace Cert.KernelIdeal.Ring4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Rows

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation -/

/-- Before the last points the body leaves the output's buffer alone, and nothing is written back. -/
theorem idle5 (t : Fin cfg0.N) (h : t.val < 36) : cfg0.idle 5 (cfg0.grid.coords t) = true := by
  show (!(k0_cond6 (grid0.coords t) == 1#1)) = true
  have h6 : ¬k0_cond6 (grid0.coords t) = 1#1 := fun h' => absurd ((cond6_iff t).mp h') (by omega)
  simp [h6]
theorem busy5 (t : Fin cfg0.N) (h : 36 ≤ t.val) : cfg0.idle 5 (cfg0.grid.coords t) = false := by
  show (!(k0_cond6 (grid0.coords t) == 1#1)) = false
  have h6 : k0_cond6 (grid0.coords t) = 1#1 := (cond6_iff t).mpr h
  simp [h6]
set_option synthInstance.maxSize 4096 in
theorem noFlush5 : ∀ t : Fin cfg0.N, t.val < 36 → (cfg0.win 5).flush t = false := by decide +kernel

/-- The body's triple before the last points, whatever the output's buffer holds, -/
theorem soundEarly (c : Dev nD) (t : Fin cfg0.N) (Q : sProp 𝕄) (h : t.val < 36) :
    bodyPre m c t Q ⊢ wp frame (wpE (defs₀ (F := F)) Variants.none c none) Set.univ (bodyAt0 t) (fun _ => bodyPost m c t Q) := by
  by_cases h0 : t.val = 0
  · exact soundPrime m c t Q h0
  by_cases h28 : t.val < 28
  · by_cases h4 : t.val % 4 = 3
    · exact soundMidTerm m c t Q h0 h28 h4
    · exact soundMid m c t Q h0 h28 h4
  by_cases h32 : t.val < 32
  · by_cases h4 : t.val % 4 = 3
    · exact soundDrainTerm m c t Q (by omega) h32 h4
    · exact soundDrain m c t Q (by omega) h32 h4
  · exact soundSecond m c t Q (by omega) h

theorem defs₀_row (t : Fin cfg0.N) : defs₀ (F := F) .tc cfg0.body (cfg0.bodyArgs t (cfg0.slots t)) = bodyAt0 t := by
  unfold defs₀; rw [Defs.onTc_tc]

/-- What the loop hands the body is what the triples take. -/
theorem pre_of (c : Dev nD) (t : Fin cfg0.N) :
    (iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))) : sProp 𝕄)
    ⊢ bodyPre m c t iprop(∃ d, owns (c : Thread nD τ) (st0_5 t) fullShare ((dats m 0 c).before 5 t d)) := by
  simp only [before0 m c t, before1 m c t, before2 m c t, before3 m c t, before4 m c t]
  unfold bodyPre
  iintro ⟨HP, HW, ⟨%d0, H0⟩, ⟨%d1, H1⟩, ⟨%d2, H2⟩, ⟨%d3, H3⟩, ⟨%d4, H4⟩, H5⟩
  isplitl [HP]; · iexact HP
  isplitl [HW]; · iexact HW
  isplitl [H0]; · iexact H0
  isplitl [H1]; · iexact H1
  isplitl [H2]; · iexact H2
  isplitl [H3]; · iexact H3
  isplitl [H4]; · iexact H4
  iexact H5
/-- A last point forgets what the output's buffer held. -/
theorem pre_last (c : Dev nD) (t : Fin cfg0.N) :
    bodyPre m c t iprop(∃ d, owns (c : Thread nD τ) (st0_5 t) fullShare ((dats m 0 c).before 5 t d))
      ⊢ bodyPre m c t iprop(∃ d, owns (c : Thread nD τ) (st0_5 t) fullShare d) := by
  unfold bodyPre
  iintro ⟨HP, HW, H0, H1, H2, H3, H4, ⟨%d5, H5⟩⟩
  isplitl [HP]; · iexact HP
  isplitl [HW]; · iexact HW
  isplitl [H0]; · iexact H0
  isplitl [H1]; · iexact H1
  isplitl [H2]; · iexact H2
  isplitl [H3]; · iexact H3
  isplitl [H4]; · iexact H4
  iexists _; iexact H5

set_option maxHeartbeats 1000000 in
theorem body_obligation (c : Dev nD) : BodyObligation (dats (F := F) m 0 c) (defs₀ (F := F)) Variants.none () Set.univ := fun t => by
  rw [bigSep_W0, bigSep_W0, defs₀_row]
  by_cases h : t.val < 36
  · refine triple_restated (soundEarly m c t iprop(∃ d, owns (c : Thread nD τ) (st0_5 t) fullShare ((dats m 0 c).before 5 t d)) h) rfl (pre_of m c t) fun _ => ?_
    unfold bodyPost; rw [idle5 t h, noFlush5 t h]; exact (Idealize.SL.BI.Entails.refl _)
  · refine triple_restated (soundLast m c t (by omega)) rfl ((pre_of m c t).trans (pre_last m c t)) fun _ => ?_
    unfold bodyPost; rw [busy5 t (by omega)]; exact (Idealize.SL.BI.Entails.refl _)

/-! ## The two ends -/

theorem moved_eq (c : Dev nD) (W : (b : Ref sig .tc) → Buf (Elt F) ((c : Thread nD τ).loc b)) :
    (BI.bigSep moved fun b => ((c : Thread nD τ).loc b ↦{fullShare} W b : sProp 𝕄)) = ((c : Thread nD τ).loc main_arg1 ↦{fullShare} W main_arg1) :=
  by
  rw [BI.bigSep_eq_bigSepL_of_eq [main_arg1] (by decide) (by decide)]; rfl

/-- What the launch hands the region: the scratch buffers, the register, the cells, the operand. -/
theorem handed_eq (c : Dev nD) : (Pipeline.ΦD ownCells spec0 moved (V m) c : sProp 𝕄) = iprop(Pipeline.scopedRest spec0 c
    ∗ (∃ r, prngReg c r) ∗ Pipeline.ownSems0 ownCells c ∗ ((c : Thread nD τ).loc main_arg1 ↦{fullShare} V m c main_arg1)) := by
  rw [Pipeline.ΦD_eq, moved_eq]

theorem scratchIn (c : Dev nD) (b : Ref sig .tc) (Φ : b.ty.Contents (Elt F) → Prop) (h : ∀ X, Φ X) :
    (iprop(∃ f, ((c : Thread nD τ).loc b) ↦{fullShare} f) : sProp 𝕄) ⊢ ownsSat (c : Thread nD τ) (Memref.whole b) fullShare Φ := by
  iintro ⟨%f, H⟩
  iapply (ownsSat_intro (c : Thread nD τ) (Memref.whole b) fullShare (h f))
  rw [owns_whole]; iexact H
theorem scratchOut (c : Dev nD) (b : Ref sig .tc) (Φ : b.ty.Contents (Elt F) → Prop) :
    ownsSat (c : Thread nD τ) (Memref.whole b) fullShare Φ ⊢ (iprop(∃ f, ((c : Thread nD τ).loc b) ↦{fullShare} f) : sProp 𝕄) := by
  refine (ownsSat_any (c : Thread nD τ) (Memref.whole b) fullShare).trans ?_
  iintro ⟨%f, H⟩; iexists f
  rw [← owns_whole]; iexact H

theorem hin (c : Dev nD) : Pipeline.ΦD ownCells spec0 moved (V m) c ⊢ (dats m 0 c).Φ 0 := by
  rw [handed_eq, scopedRest0_eq, ownCells_eq, show (dats m 0 c).Φ 0 = PhiR m c 0 from rfl]
  unfold PhiR held
  rw [ringAt_first]
  iintro ⟨⟨S0, S1, S2, S3, S4, S5⟩, Hg, Hq, Ha⟩
  isplitl [Hg]; · iexact Hg
  isplitl [S5 Hq Ha]
  · iapply (allIdle_of_parts (F := F) c (V m c main_arg1))
    isplitl [S5]; · iexact S5
    isplitl [Hq]; · iexact Hq
    iexact Ha
  isplitl [S0]; · iapply (scratchIn c cc0_scratch0 _ fun _ => On.none _ _ _); iexact S0
  isplitl [S1]; · iapply (scratchIn c cc0_scratch1 _ fun _ => On.none _ _ _); iexact S1
  isplitl [S2]; · iapply (scratchIn c cc0_scratch2 _ fun _ => On.none _ _ _); iexact S2
  isplitl [S3]; · iapply (scratchIn c cc0_scratch3 _ fun _ => On.none _ _ _); iexact S3
  iapply (scratchIn c cc0_scratch4 _ fun _ => And.intro (On.none _ _ _) (On.none _ _ _)); iexact S4

theorem hout (c : Dev nD) : (dats m 0 c).Φ (Fin.last cfg0.N) ⊢ Pipeline.ΦD ownCells spec0 moved (V m) c := by
  rw [handed_eq, scopedRest0_eq, ownCells_eq, show (dats m 0 c).Φ (Fin.last cfg0.N) = PhiR m c grid0.N from rfl]
  unfold PhiR held
  rw [show grid0.N = 40 by rw [N_0], ringAt_late c _ (by decide)]
  iintro ⟨Hg, HR, S0, S1, S2, S3, S4⟩
  ihave HR := (parts_of_allIdle (F := F) c (V m c main_arg1)) $$ HR
  icases HR with ⟨S5, Hq, Ha⟩
  isplitl [S0 S1 S2 S3 S4 S5]
  · isplitl [S0]; · iapply (scratchOut c cc0_scratch0 _); iexact S0
    isplitl [S1]; · iapply (scratchOut c cc0_scratch1 _); iexact S1
    isplitl [S2]; · iapply (scratchOut c cc0_scratch2 _); iexact S2
    isplitl [S3]; · iapply (scratchOut c cc0_scratch3 _); iexact S3
    isplitl [S4]; · iapply (scratchOut c cc0_scratch4 _); iexact S4
    iexact S5
  isplitl [Hg]; · iexact Hg
  isplitl [Hq]; · iexact Hq
  iexact Ha

/-! ## The run and the frame -/

set_option backward.isDefEq.respectTransparency.types false in
/-- Every run ends, with each array at what its write-backs made of it and every counter at zero. -/
theorem runs : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownCells defs₀ Variants.none ownCellFacts moved moved_sub m ρ main
    (hbody := fun c => (body_obligation m c).loose) (hshare := fun c => (dats m 0 c).share_full fun _ => rfl)
    (howed := fun _ _ => rfl) (V := V m) (hmain := toRegion m Variants.none) (hA := A_eq m) (hin := hin m) (hout := hout m)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (argsKept m ρ (dats m) (A_eq m) ((θ_run defs _ _).mono (fun _ h => h.1) (runs m ρ))) ((θ_run defs _ _).mono (fun _ h => h.2) (runs m ρ))

end Cert.KernelIdeal.Ring4

end
-- ==== Proof.Formula.lean ====
/-
  The layer the two programs compute, as plain functions of indices over the ideal values: the features normalised by
  columns, the three terms of the recurrence by the operand, and the sum of the four products with its bias, cut at zero.
-/
module

public import Idealize.ShloMosaic.Lib.Pointwise

@[expose] public section

noncomputable section

namespace Cert.Formula

open Idealize.ShloMosaic

/-- A matrix of ideal values. -/
abbrev Mat (n w : ℕ) : Type := (⟨2, ![n, w]⟩ : Shape).Idx → EReal

/-- The matrix product. -/
def mm {n k w : ℕ} (A : Mat n k) (B : Mat k w) : Mat n w := fun y => ∑ i : Fin k, A (ix2 (y 0) i) * B (ix2 i (y 1))

/-- The constants both programs carry: the number of rows, the variance's offset and the recurrence's factor. -/
def rows : EReal := Ideal.ofBits .f32 0x45800000#32
def eps : EReal := Ideal.ofBits .f32 0x3727C5AC#32
def two : EReal := Ideal.ofBits .f32 0x40000000#32

/-- A column's mean and variance. -/
def mean (x : Mat 4096 256) (l : Fin 256) : EReal := Ideal.div (∑ k : Fin 4096, x (ix2 k l)) rows
def var (x : Mat 4096 256) (l : Fin 256) : EReal :=
  Ideal.div (∑ k : Fin 4096, (x (ix2 k l) - mean x l) * (x (ix2 k l) - mean x l)) rows

/-- The normalised features, scaled by `g` and moved by `h`. -/
def feat (x : Mat 4096 256) (g h : Fin 256 → EReal) : Mat 4096 256 := fun y =>
  Ideal.div (x y - mean x (y 1)) (Ideal.sqrt (var x (y 1) + eps)) * g (y 1) + h (y 1)

/-- A further term of the recurrence, from the two before it. -/
def next {n : ℕ} (A : Mat n 4096) (T : Mat 4096 256) (S : Mat n 256) : Mat n 256 := fun y => two * mm A T y - S y

/-- Matrix `k` of four. -/
def slab (w : (⟨3, ![4, 256, 256]⟩ : Shape).Idx → EReal) (k : Fin 4) : Mat 256 256 := fun y => w (ix3 k (y 0) (y 1))

/-- The layer, of the features, the operand, the four matrices and the bias. -/
def layer (X : Mat 4096 256) (A : Mat 4096 4096) (W : Fin 4 → Mat 256 256) (b : Fin 256 → EReal) : Mat 4096 256 :=
  let T1 := mm A X
  let T2 := next A T1 X
  let T3 := next A T2 T1
  fun y => max ((((mm X (W 0) y + mm T1 (W 1) y) + mm T2 (W 2) y) + mm T3 (W 3) y) + b (y 1)) 0

end Cert.Formula

end
-- ==== Proof.KI.Value.lean ====
/- The arrays the kernel builds, at the ideal values, are the formula's. -/
module

public import proofs.«01_k».proof.Proof.Formula
public import proofs.«01_k».proof.Proof.KI.Model

@[expose] public section

set_option maxRecDepth 16384

noncomputable section

namespace Cert.KernelIdeal.Ring4

open Idealize.ShloMosaic Cert.Rows
open Cert.KernelIdeal.Gen
open Cert.Formula (Mat mm feat next layer rows eps two)

/-! ## The body's expressions -/

theorem pay2_apply (v : Vec Ideal S1x128x4096 .f32) (r : Fin 128) (l : Fin 4096) : k0_pay2 v (ix2 r l) = v (ix3 0 r l) := by
  pointwise [k0_pay2]

theorem pay8_apply (x : Vec Ideal S4096x256 .f32) (a : Fin 1) (l : Fin 256) : k0_pay8 x (ix2 a l) = Formula.mean x l := by
  pointwise [k0_pay8, Formula.mean, rows]

theorem pay9_apply (x : Vec Ideal S4096x256 .f32) (r : Fin 4096) (l : Fin 256) :
    k0_pay9 x (ix2 r l) = (x (ix2 r l) - Formula.mean x l) * (x (ix2 r l) - Formula.mean x l) := by
  pointwise [k0_pay9, pay8_apply]

theorem feat_eq (x : Vec Ideal S4096x256 .f32) (g h : Vec Ideal S1x256 .f32) :
    k0_pay1 x (k0_pay8 x) (k0_pay9 x) g h = feat x (fun l => g (ix2 0 l)) (fun l => h (ix2 0 l)) := by
  funext y
  idx_vars y
  pointwise [k0_pay1, pay8_apply, pay9_apply, feat, Formula.var, rows, eps]

/-- A matrix of four, as a load of one of them holds it. -/
def flat (v : Vec Ideal S1x256x256 .bf16) : Mat 256 256 := fun y => v (ix3 0 (y 0) (y 1))

theorem pay10_eq (A : Vec Ideal S512x4096 .bf16) (T : Vec Ideal S4096x256 .bf16) : k0_pay10 A T = mm A T := by
  funext y
  pointwise [k0_pay10, mm]

theorem pay11_eq (A : Vec Ideal S512x4096 .bf16) (T : Vec Ideal S4096x256 .bf16) : k0_pay11 A T = mm A T := by
  funext y
  idx_vars y
  pointwise [k0_pay11, pay10_eq]

theorem pay12_eq (A : Vec Ideal S512x4096 .bf16) (T : Vec Ideal S4096x256 .bf16) (S : Vec Ideal S512x256 .bf16)
    (W0 W1 : Vec Ideal S1x256x256 .bf16) :
    k0_pay3 (k0_pay12 A T S W0 W1) = fun y => mm S (flat W0) y + mm (mm A T) (flat W1) y := by
  funext y
  idx_vars y
  pointwise [k0_pay3, k0_pay12, pay10_eq, mm, flat]

theorem pay4_eq (A : Vec Ideal S1024x4096 .bf16) (T : Vec Ideal S4096x256 .bf16) (S : Vec Ideal S1024x256 .bf16) :
    k0_pay4 A T S = next A T S := by
  funext y
  pointwise [k0_pay4, next, mm, two]

theorem pay5_eq (A : Vec Ideal S1024x4096 .bf16) (T : Vec Ideal S4096x256 .bf16) (S : Vec Ideal S1024x256 .bf16) :
    k0_pay5 A T S = next A T S := by
  funext y
  idx_vars y
  pointwise [k0_pay5, pay4_eq]

theorem pay6_eq (A : Vec Ideal S1024x4096 .bf16) (T : Vec Ideal S4096x256 .bf16) (S P : Vec Ideal S1024x256 .bf16)
    (W : Vec Ideal S1x256x256 .bf16) : k0_pay6 A T S P W = fun y => P y + mm (next A T S) (flat W) y := by
  funext y
  idx_vars y
  pointwise [k0_pay6, pay4_eq, mm, flat]

theorem pay7_eq (A : Vec Ideal S1024x4096 .bf16) (T : Vec Ideal S4096x256 .bf16) (S P : Vec Ideal S1024x256 .bf16)
    (W : Vec Ideal S1x256x256 .bf16) (b : Vec Ideal S1x256 .f32) :
    k0_pay7 A T S P W b = fun y => max ((P y + mm (next A T S) (flat W) y) + b (ix2 0 (y 1))) 0 := by
  funext y
  idx_vars y
  pointwise [k0_pay7, next, two, mm, flat]

/-! ## The arrays -/

variable (I : Ops Ideal)

theorem lb_eq : I.lb = I.lap := by
  refine ext_win 128 fun j hj => ?_
  unfold Ops.lb
  rw [win_asm 128 _ j (by omega)]
  funext y
  idx_vars y
  rw [pay2_apply]
  rfl

theorem xh_eq : I.xh = feat I.x (fun l => I.gamma (ix2 0 l)) (fun l => I.beta (ix2 0 l)) := feat_eq _ _ _

theorem t1_eq : I.t1 = mm I.lap I.xh := by
  refine ext_win 512 fun j hj => ?_
  unfold Ops.t1
  rw [win_asm 512 _ j (by omega)]
  unfold Ops.t1b
  rw [pay11_eq, lb_eq]
  rfl

theorem a1_eq : I.a1 = fun y => mm I.xh (flat (I.mat 0)) y + mm I.t1 (flat (I.mat 1)) y := by
  refine ext_win 512 fun j hj => ?_
  unfold Ops.a1
  rw [win_asm 512 _ j (by omega)]
  unfold Ops.a1b
  rw [pay12_eq, lb_eq, t1_eq]
  rfl

theorem t2_eq : I.t2 = next I.lap I.t1 I.xh := by
  refine ext_win 1024 fun j hj => ?_
  unfold Ops.t2
  rw [win_asm 1024 _ j (by omega)]
  unfold Ops.t2b
  rw [pay5_eq, lb_eq]
  rfl

theorem a2_eq : I.a2 = fun y => I.a1 y + mm I.t2 (flat (I.mat 2)) y := by
  refine ext_win 1024 fun j hj => ?_
  unfold Ops.a2
  rw [win_asm 1024 _ j (by omega)]
  unfold Ops.a2b
  rw [pay6_eq, lb_eq, t2_eq]
  rfl

/-- The result array is the layer of the operands. -/
theorem out_eq : asm 4096 1024 I.out
    = layer (feat I.x (fun l => I.gamma (ix2 0 l)) (fun l => I.beta (ix2 0 l))) I.lap (fun k => flat (I.mat k)) (fun l => I.bias (ix2 0 l)) := by
  rw [← xh_eq]
  refine ext_win 1024 fun j hj => ?_
  rw [win_asm 1024 _ j (by omega)]
  unfold Ops.out
  rw [pay7_eq, lb_eq, a2_eq, a1_eq, t2_eq, t1_eq]
  rfl

end Cert.KernelIdeal.Ring4

end
-- ==== Proof.KI.Result.lean ====
/- What the result array holds after the run, and what the operands are, in terms of the arguments. -/
module

public import proofs.«01_k».proof.Proof.KI.Launch

@[expose] public section

set_option maxRecDepth 16384

noncomputable section

namespace Cert.KernelIdeal.Ring4

open Idealize.ShloMosaic Idealize.ShloMosaic.TcCoe Idealize.ShloMosaic.ValueIdx Cert.Rows
open Idealize.ShloMosaic.Pipeline (Dat)
open Cert.KernelIdeal.Gen

variable {F : FTy → Type} [FloatOps F]
variable (m : (ℓ : Loc nD τ sig) → Buf (Elt F) ℓ) (ρ : Dev nD → PrngReg)

/-! ## The result's blocks -/

/-- The block the output's window is at, and that the last four points write theirs back. -/
theorem block5 : ∀ t : Fin cfg0.N, 36 ≤ t.val → win0_5.index t 0 = t.val - 36 ∧ win0_5.index t 1 = 0 := by decide +kernel
theorem flush5 : ∀ t : Fin cfg0.N, 36 ≤ t.val → (cfg0.win 5).flush t = true := by decide +kernel

/-- Where an element of the block at a late point lies. -/
theorem emb5 (t : Fin cfg0.N) (h : 36 ≤ t.val) (y : S1024x256.Idx) :
    (win0_5.rect t).emb y = (ix2 (Fin.ofNat 4096 (1024 * (t.val - 36) + (y 0).val)) (y 1) : S4096x256.Idx) := by
  obtain ⟨h0, h1⟩ := block5 t h
  have ht : t.val < 40 := lt_of_lt_of_eq t.isLt N_0
  have hy := idx2_lt0 y
  refine Shape.idx_ext₂ ?_ ?_
  · refine (Pipeline.Window.rect_emb_val win0_5 t y 0).trans ?_
    rw [h0]
    show (t.val - 36) * 1024 + (y 0).val = (1024 * (t.val - 36) + (y 0).val) % 4096
    rw [Nat.mod_eq_of_lt (by omega)]; omega
  · exact Pipeline.Window.rect_emb_val_of_index_zero win0_5 t 1 h1 y

/-- The result array. -/
def result (c : Dev nD) : Vec F S4096x256 .f32 := asm 4096 1024 (opsOf m c).out

theorem flushed5 (c : Dev nD) (t : Fin cfg0.N) (hf : (cfg0.win 5).flush t = true) :
    (dats m 0 c).flushed 5 t = ((cfg0.win 5).blk t).view.read (Elt F) (result m c) := by
  have h : 36 ≤ t.val := by
    by_contra hlt
    rw [noFlush5 t (by omega)] at hf; exact absurd hf (by decide)
  have ht : t.val < 40 := lt_of_lt_of_eq t.isLt N_0
  have e := win_asm (n := 4096) 1024 (opsOf m c).out (t.val - 36) (by omega)
  funext y
  have e' : (opsOf m c).out (t.val - 36) y = result m c ((win0_5.rect t).emb y) := by
    rw [emb5 t h y]; exact (congrFun e y).symm
  exact e'

theorem cover5 (i : S4096x256.Idx) : ∃ t : Fin cfg0.N, (cfg0.win 5).flush t = true ∧ i ∈ ((cfg0.win 5).blk t).view.set := by
  have hi := idx2_lt0 i
  have hN : cfg0.N = 40 := N_0
  refine ⟨⟨36 + (i 0).val / 1024, by omega⟩, flush5 _ (by simp), ?_⟩
  set t : Fin cfg0.N := ⟨36 + (i 0).val / 1024, by omega⟩ with hts
  have e := emb5 t (by simp [hts]) (ix2 (Fin.ofNat 1024 (i 0).val) (i 1))
  have e2 : (ix2 (Fin.ofNat 4096 (1024 * (t.val - 36) + (Fin.ofNat 1024 (i 0).val).val)) (i 1) : S4096x256.Idx) = i := by
    refine Shape.idx_ext₂ ?_ rfl
    show (1024 * (36 + (i 0).val / 1024 - 36) + (i 0).val % 1024) % 4096 = (i 0).val
    omega
  have := ((cfg0.win 5).blk t).view.emb_mem_set (ix2 (Fin.ofNat 1024 (i 0).val) (i 1) : S1024x256.Idx)
  have e3 : ((cfg0.win 5).blk t).view.emb (ix2 (Fin.ofNat 1024 (i 0).val) (i 1) : S1024x256.Idx) = i := e.trans e2
  rw [e3] at this
  exact this

/-- After the run the result array holds its blocks. -/
theorem arr5 (c : Dev nD) : (dats m 0 c).arrAt 5 cfg0.N = result m c :=
  (dats m 0 c).arrAt_eq_of_cover 5 (result m c) (fun t hf => flushed5 m c t hf) cover5

/-! ## The operands -/

theorem ops_lap (c : Dev nD) : (opsOf m c).lap = m ((c : Thread nD τ).loc main_arg1) := V_main_arg1 m c

theorem ops_x (c : Dev nD) : (opsOf m c).x = m ((c : Thread nD τ).loc main_arg0) := by
  have hz : (fun a => (win0_0.index first) a * main_arg0.ty.shape.size a) = fun _ => 0 :=
    funext fun a => by fin_cases a <;> decide
  have hr := fun f => Memref.read_access_unit_zero (Elt F) main_arg0 hz (fun a => by fin_cases a <;> decide) f
  unfold opsOf iblk
  exact (hr _).trans (V_main_arg0 m c)

theorem ops_w (c : Dev nD) : (opsOf m c).w = V m c main_v3 := by
  have hz : (fun a => (win0_1.index first) a * main_v3.ty.shape.size a) = fun _ => 0 :=
    funext fun a => by fin_cases a <;> decide
  have hr := fun f => Memref.read_access_unit_zero (Elt F) main_v3 hz (fun a => by fin_cases a <;> decide) f
  unfold opsOf iblk
  exact hr (V m c main_v3)
theorem ops_bias (c : Dev nD) : (opsOf m c).bias = V m c main_v0 := by
  have hz : (fun a => (win0_2.index first) a * main_v0.ty.shape.size a) = fun _ => 0 :=
    funext fun a => by fin_cases a <;> decide
  have hr := fun f => Memref.read_access_unit_zero (Elt F) main_v0 hz (fun a => by fin_cases a <;> decide) f
  unfold opsOf iblk
  exact hr (V m c main_v0)
theorem ops_gamma (c : Dev nD) : (opsOf m c).gamma = V m c main_v1 := by
  have hz : (fun a => (win0_3.index first) a * main_v1.ty.shape.size a) = fun _ => 0 :=
    funext fun a => by fin_cases a <;> decide
  have hr := fun f => Memref.read_access_unit_zero (Elt F) main_v1 hz (fun a => by fin_cases a <;> decide) f
  unfold opsOf iblk
  exact hr (V m c main_v1)
theorem ops_beta (c : Dev nD) : (opsOf m c).beta = V m c main_v2 := by
  have hz : (fun a => (win0_4.index first) a * main_v2.ty.shape.size a) = fun _ => 0 :=
    funext fun a => by fin_cases a <;> decide
  have hr := fun f => Memref.read_access_unit_zero (Elt F) main_v2 hz (fun a => by fin_cases a <;> decide) f
  unfold opsOf iblk
  exact hr (V m c main_v2)

/-- What the host operations before the kernel leave. -/
theorem V_v0 (c : Dev nD) : V m c main_v0 = (shapeCast S1x256 (m ((c : Thread nD τ).loc main_arg3)) shapeCasts_S256_S1x256 : Vec F S1x256 .f32) := by
  unfold V; after_results; rfl
theorem V_v1 (c : Dev nD) : V m c main_v1 = (shapeCast S1x256 (m ((c : Thread nD τ).loc main_arg4)) shapeCasts_S256_S1x256 : Vec F S1x256 .f32) := by
  unfold V; after_results; rfl
theorem V_v2 (c : Dev nD) : V m c main_v2 = (shapeCast S1x256 (m ((c : Thread nD τ).loc main_arg5)) shapeCasts_S256_S1x256 : Vec F S1x256 .f32) := by
  unfold V; after_results; rfl
theorem V_v3 (c : Dev nD) : V m c main_v3 = (truncf .bf16 (m ((c : Thread nD τ).loc main_arg2) : Vec F S4x256x256 .f32) bitsLt_bf16_f32 : Vec F S4x256x256 .bf16) := by
  unfold V; after_results

end Cert.KernelIdeal.Ring4

end
-- ==== Proof.KI.Answer.lean ====
/- Every run of the idealized kernel ends with the formula of the arguments in the result array. -/
module

public import proofs.«01_k».proof.Proof.KI.Value
public import proofs.«01_k».proof.Proof.KI.Result
public import Idealize.ShloMosaic.Lib.Claim

@[expose] public section

set_option maxRecDepth 16384

noncomputable section

namespace Cert.KernelIdeal.Ring4

open Idealize.ShloMosaic Idealize.ShloMosaic.TcCoe Idealize.SL.Sem Cert.Rows
open Cert.KernelIdeal.Gen
open Cert.Formula (feat layer slab)

variable (m : (ℓ : Loc nD τ sig) → Buf (Elt Ideal) ℓ) (ρ : Dev nD → PrngReg)

/-- A vector laid out as one row, at an index. -/
theorem row_apply (v : Vec Ideal S256 .f32) (l : Fin 256) : (shapeCast S1x256 v shapeCasts_S256_S1x256 : Vec Ideal S1x256 .f32) (ix2 0 l) = v (ix1 l) := by
  pointwise

theorem gamma_apply (c : Dev nD) (l : Fin 256) : (opsOf m c).gamma (ix2 0 l) = m ((c : Thread nD τ).loc main_arg4) (ix1 l) := by
  rw [ops_gamma, V_v1]; exact row_apply _ l
theorem beta_apply (c : Dev nD) (l : Fin 256) : (opsOf m c).beta (ix2 0 l) = m ((c : Thread nD τ).loc main_arg5) (ix1 l) := by
  rw [ops_beta, V_v2]; exact row_apply _ l
theorem bias_apply (c : Dev nD) (l : Fin 256) : (opsOf m c).bias (ix2 0 l) = m ((c : Thread nD τ).loc main_arg3) (ix1 l) := by
  rw [ops_bias, V_v0]; exact row_apply _ l
theorem mats (c : Dev nD) : (fun k => flat ((opsOf m c).mat k)) = slab (m ((c : Thread nD τ).loc main_arg2)) := by
  funext k y
  show (opsOf m c).w (ix3 k (y 0) (y 1)) = m ((c : Thread nD τ).loc main_arg2) (ix3 k (y 0) (y 1))
  rw [ops_w, V_v3]; rfl

/-- The layer of the arguments. -/
def answer (c : Dev nD) : Vec Ideal S4096x256 .f32 :=
  layer (feat (m ((c : Thread nD τ).loc main_arg0)) (fun l => m ((c : Thread nD τ).loc main_arg4) (ix1 l)) (fun l => m ((c : Thread nD τ).loc main_arg5) (ix1 l)))
    (m ((c : Thread nD τ).loc main_arg1)) (slab (m ((c : Thread nD τ).loc main_arg2))) (fun l => m ((c : Thread nD τ).loc main_arg3) (ix1 l))

theorem result_eq (c : Dev nD) : result m c = answer m c := by
  unfold result answer
  rw [out_eq, ops_x, ops_lap, mats]
  simp only [gamma_apply, beta_apply, bias_apply]

theorem answers : θ_run defs (onTc (τ := τ) (main (F := Ideal))) ⟨m, fun _ => 0, ρ⟩ (fun r => ∀ c : Dev nD,
      r.2.mem ((c.tc : Thread nD τ).loc main_v4) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 5).trans ((arr5 m c).trans (result_eq m c)), h.2.1 c⟩)
    (θ_run_and (runs m ρ) (frame m ρ))

end Cert.KernelIdeal.Ring4

end
-- ==== Proof.RefValue.lean ====
/- The reference's result is the formula of its arguments. -/
module

public import proofs.«01_k».proof.Proof.Formula
public import proofs.«01_k».proof.Proof.Gen.ReferenceIdeal.Run
public import Idealize.ShloMosaic.Lib.KernelVsHost

@[expose] public section

set_option maxRecDepth 16384

noncomputable section

namespace Cert.ReferenceIdeal.Layer

open Cert.ReferenceIdeal Cert.ReferenceIdeal.Gen Idealize.ShloMosaic Idealize.ShloMosaic.TcCoe
open Cert.Formula (Mat mm feat next layer rows eps two slab)

section Terms
variable {F : FTy → Type} [FloatOps F]

/-- The column means as the reference spells them, -/
def mean (x : Vec F S4096x256 .f32) : Vec F S1x256 .f32 :=
  Host.divf (broadcastInDim S1x256 ![1] bcast_S256_S1x256_1 (Host.reduceAdd x (constant S_ .f32 0x00000000#32) reducesTo_S4096x256_S256_d0 h_S_))
    (broadcastInDim S1x256 ![] bcast_S_S1x256 (constant S_ .f32 0x45800000#32))
/-- the number of rows less a correction of zero, -/
def count : Vec F S_ .f32 := subf (constant S_ .f32 0x45800000#32) (sitofp .f32 (constantI S_ 32 0#32))
/-- the column variances, -/
def var (x : Vec F S4096x256 .f32) : Vec F S1x256 .f32 :=
  select (broadcastInDim S1x256 ![] bcast_S_S1x256 (cmpf .ogt (count (F := F)) (constant S_ .f32 0x00000000#32)))
    (Host.divf (broadcastInDim S1x256 ![1] bcast_S256_S1x256_1 (Host.reduceAdd
        (mulf (subf x (broadcastInDim S4096x256 ![0, 1] bcast_S1x256_S4096x256_0_1 (mean x)))
          (subf x (broadcastInDim S4096x256 ![0, 1] bcast_S1x256_S4096x256_0_1 (mean x))))
        (constant S_ .f32 0x00000000#32) reducesTo_S4096x256_S256_d0 h_S_)) (broadcastInDim S1x256 ![] bcast_S_S1x256 count))
    (broadcastInDim S1x256 ![] bcast_S_S1x256 (id (constant S_ .f32 0x7FC00000#32)))
/-- a vector in every row, -/
def spread (g : Vec F S256 .f32) : Vec F S4096x256 .f32 :=
  broadcastInDim S4096x256 ![0, 1] bcast_S1x256_S4096x256_0_1 (broadcastInDim S1x256 ![1] bcast_S256_S1x256_1 g)
/-- the normalised features, -/
def feats (x : Vec F S4096x256 .f32) (g h : Vec F S256 .f32) : Vec F S4096x256 .f32 :=
  addf (mulf (Host.divf (subf x (broadcastInDim S4096x256 ![0, 1] bcast_S1x256_S4096x256_0_1 (mean x)))
      (broadcastInDim S4096x256 ![0, 1] bcast_S1x256_S4096x256_0_1
        (Host.sqrt (addf (var x) (broadcastInDim S1x256 ![] bcast_S_S1x256 (constant S_ .f32 0x3727C5AC#32)))))) (spread g)) (spread h)
/-- a product by the operand, -/
def byLap (L : Vec F S4096x4096 .f32) (T : Vec F S4096x256 .f32) : Vec F S4096x256 .f32 :=
  Host.dotGeneral dot_S4096x4096_S4096x256_S4096x256_1_0_0_1_n_n none L T
/-- a further term, -/
def term (L : Vec F S4096x4096 .f32) (T S : Vec F S4096x256 .f32) : Vec F S4096x256 .f32 :=
  subf (mulf (broadcastInDim S4096x256 ![] bcast_S_S4096x256 (constant S_ .f32 0x40000000#32)) (byLap L T)) S
/-- a product by a matrix, -/
def byMat (T : Vec F S4096x256 .f32) (W : Vec F S256x256 .f32) : Vec F S4096x256 .f32 :=
  Host.dotGeneral dot_S4096x256_S256x256_S4096x256_1_0_0_1_n_n none T W
/-- and the sum of the products with the bias, cut at zero. -/
def total (X T1 T2 T3 : Vec F S4096x256 .f32) (w : Vec F S4x256x256 .f32) (b : Vec F S256 .f32) : Vec F S4096x256 .f32 :=
  maximumf (addf (addf (addf (addf
      (byMat X (shapeCast _ (extractStridedSlice S1x256x256 ![0, 0, 0] w slices_S4x256x256_S1x256x256_0_0_0) shapeCasts_S1x256x256_S256x256))
      (byMat T1 (shapeCast _ (extractStridedSlice S1x256x256 ![1, 0, 0] w slices_S4x256x256_S1x256x256_1_0_0) shapeCasts_S1x256x256_S256x256)))
      (byMat T2 (shapeCast _ (extractStridedSlice S1x256x256 ![2, 0, 0] w slices_S4x256x256_S1x256x256_2_0_0) shapeCasts_S1x256x256_S256x256)))
      (byMat T3 (shapeCast _ (extractStridedSlice S1x256x256 ![3, 0, 0] w slices_S4x256x256_S1x256x256_3_0_0) shapeCasts_S1x256x256_S256x256)))
    (spread b)) (broadcastInDim S4096x256 ![] bcast_S_S4096x256 (constant S_ .f32 0x00000000#32))

variable (m : (ℓ : Loc nD τ sig) → Buf (Elt F) ℓ) (c : Dev nD)

/-- The features the reference makes of its arguments. -/
def X : Vec F S4096x256 .f32 := feats (m ((c.tc : Thread nD τ).loc main_arg0)) (m ((c.tc : Thread nD τ).loc main_arg4)) (m ((c.tc : Thread nD τ).loc main_arg5))
def L : Vec F S4096x4096 .f32 := m ((c.tc : Thread nD τ).loc main_arg1)

theorem res_eq : Value.res_out0 m c
    = total (X m c) (byLap (L m c) (X m c)) (term (L m c) (byLap (L m c) (X m c)) (X m c))
        (term (L m c) (term (L m c) (byLap (L m c) (X m c)) (X m c)) (byLap (L m c) (X m c)))
        (m ((c.tc : Thread nD τ).loc main_arg2)) (m ((c.tc : Thread nD τ).loc main_arg3)) := by
  unfold Value.res_out0 Value.res_main_v45
  rfl
end Terms

/-! ## At the ideal values -/

theorem rows_eq : rows = ((4096 : ℝ) : EReal) := by
  unfold rows; simp [Ideal.ofBits, Ideal.ieee, -EReal.coe_mul]; norm_num

theorem mean_apply (x : Vec Ideal S4096x256 .f32) (a : Fin 1) (l : Fin 256) : mean x (ix2 a l) = Formula.mean x l := by
  pointwise [mean, Formula.mean, Formula.rows]

theorem count_apply (j : S_.Idx) : count (F := Ideal) j = rows := by
  pointwise [count, rows]
  rw [show (FloatOps.sitofp .f32 0#32 : Ideal .f32) = 0 from sitofp_zero, sub_zero]

theorem var_apply (x : Vec Ideal S4096x256 .f32) (a : Fin 1) (l : Fin 256) : var x (ix2 a l) = Formula.var x l := by
  have h0 : 0 < rows := by rw [rows_eq]; exact_mod_cast (by norm_num : (0 : ℝ) < 4096)
  pointwise [var, Formula.var, count_apply, mean_apply]
  rw [if_pos h0]

theorem feats_eq (x : Vec Ideal S4096x256 .f32) (g h : Vec Ideal S256 .f32) :
    feats x g h = feat x (fun l => g (ix1 l)) (fun l => h (ix1 l)) := by
  funext y
  idx_vars y
  pointwise [feats, spread, feat, var_apply, mean_apply, Formula.eps]

theorem byLap_eq (L : Vec Ideal S4096x4096 .f32) (T : Vec Ideal S4096x256 .f32) : byLap L T = mm L T := by
  funext y
  pointwise [byLap, mm]

theorem byMat_eq (T : Vec Ideal S4096x256 .f32) (W : Vec Ideal S256x256 .f32) : byMat T W = mm T W := by
  funext y
  pointwise [byMat, mm]

theorem term_eq (L : Vec Ideal S4096x4096 .f32) (T S : Vec Ideal S4096x256 .f32) : term L T S = next L T S := by
  funext y
  unfold term
  rw [byLap_eq]
  pointwise [next, two]

theorem slab0 (w : Vec Ideal S4x256x256 .f32) : (shapeCast S256x256 (extractStridedSlice S1x256x256 ![0, 0, 0] w slices_S4x256x256_S1x256x256_0_0_0) shapeCasts_S1x256x256_S256x256) = slab w 0 := by
  funext y; idx_vars y; pointwise [slab]
theorem slab1 (w : Vec Ideal S4x256x256 .f32) : (shapeCast S256x256 (extractStridedSlice S1x256x256 ![1, 0, 0] w slices_S4x256x256_S1x256x256_1_0_0) shapeCasts_S1x256x256_S256x256) = slab w 1 := by
  funext y; idx_vars y; pointwise [slab]
theorem slab2 (w : Vec Ideal S4x256x256 .f32) : (shapeCast S256x256 (extractStridedSlice S1x256x256 ![2, 0, 0] w slices_S4x256x256_S1x256x256_2_0_0) shapeCasts_S1x256x256_S256x256) = slab w 2 := by
  funext y; idx_vars y; pointwise [slab]
theorem slab3 (w : Vec Ideal S4x256x256 .f32) : (shapeCast S256x256 (extractStridedSlice S1x256x256 ![3, 0, 0] w slices_S4x256x256_S1x256x256_3_0_0) shapeCasts_S1x256x256_S256x256) = slab w 3 := by
  funext y; idx_vars y; pointwise [slab]

theorem total_eq (X T1 T2 T3 : Vec Ideal S4096x256 .f32) (w : Vec Ideal S4x256x256 .f32) (b : Vec Ideal S256 .f32) :
    total X T1 T2 T3 w b = fun y => max ((((mm X (slab w 0) y + mm T1 (slab w 1) y) + mm T2 (slab w 2) y) + mm T3 (slab w 3) y) + b (ix1 (y 1))) 0 := by
  unfold total
  rw [slab0, slab1, slab2, slab3, byMat_eq, byMat_eq, byMat_eq, byMat_eq]
  funext y
  idx_vars y
  pointwise [spread]

variable (m : (ℓ : Loc nD τ sig) → Buf (Elt Ideal) ℓ) (c : Dev nD)

/-- The reference's result is the layer of its arguments. -/
theorem result : Value.res_out0 m c
    = layer (feat (m ((c.tc : Thread nD τ).loc main_arg0)) (fun l => m ((c.tc : Thread nD τ).loc main_arg4) (ix1 l)) (fun l => m ((c.tc : Thread nD τ).loc main_arg5) (ix1 l)))
        (m ((c.tc : Thread nD τ).loc main_arg1)) (slab (m ((c.tc : Thread nD τ).loc main_arg2))) (fun l => m ((c.tc : Thread nD τ).loc main_arg3) (ix1 l)) := by
  rw [res_eq, total_eq, term_eq, term_eq, byLap_eq, X, L, feats_eq]
  rfl

end Cert.ReferenceIdeal.Layer

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.KI.Answer
public import proofs.«01_k».proof.Proof.RefValue
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Ring4.frame m ρ

theorem frame_pi : Cert.quiescent_KernelIdeal := fun m ρ _ => Cert.KernelIdeal.Ring4.frame m ρ

/-- The reference declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the answer of arguments that equal the kernel's. -/
theorem algebraic : Cert.algebraic_KernelIdeal_ReferenceIdeal := fun m ρ m' ρ' _ hargs =>
  ⟨fun c => Cert.KernelIdeal.Ring4.answer m c, Cert.KernelIdeal.Ring4.answers m ρ,
    (θ_run Cert.ReferenceIdeal.defs _ _).mono (fun r h c => ⟨(h c).1.trans ((Cert.ReferenceIdeal.Layer.result m' c).trans (by
      obtain ⟨h0, h1, h2, h3, h4, h5⟩ := hargs c
      rw [h0, h1, h2, h3, h4, h5]; rfl)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_p, frame_pi, frame_ri, trivial, algebraic⟩

end Cert.Proof

end
